-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hpmax_in_range [hPre_hpmax_in_range : Cert.Pre_hpmax_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_hpmax_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hpmax_in_range [hPre_hpmax_in_range : Cert.Pre_hpmax_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hpmax_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_hpmax_in_range [hKernelIdeal : Cert.KernelIdeal.Facts] [hPre_hpmax_in_range : Cert.Pre_hpmax_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hpmax_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_hpmax_in_range [hReferenceIdeal : Cert.ReferenceIdeal.Facts] [hPre_hpmax_in_range : Cert.Pre_hpmax_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hpmax_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_hpmax_in_range [hKernelIdeal : Cert.KernelIdeal.Facts] [hReferenceIdeal : Cert.ReferenceIdeal.Facts] [hPre_hpmax_in_range : Cert.Pre_hpmax_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hpmax_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_hpmax_in_range : Cert.Pre_hpmax_in_range.Facts),
    quiescent_Kernel (hKernel := hKernel)
    ∧ quiescent_KernelIdeal (hKernelIdeal := hKernelIdeal)
    ∧ quiescent_KernelIdeal_pre_hpmax_in_range (hKernelIdeal := hKernelIdeal) (hPre_hpmax_in_range := hPre_hpmax_in_range)
    ∧ quiescent_ReferenceIdeal (hReferenceIdeal := hReferenceIdeal)
    ∧ quiescent_ReferenceIdeal_pre_hpmax_in_range (hReferenceIdeal := hReferenceIdeal) (hPre_hpmax_in_range := hPre_hpmax_in_range)
    ∧ preserves_Kernel_KernelIdeal
    ∧ algebraic_KernelIdeal_ReferenceIdeal_pre_hpmax_in_range (hKernelIdeal := hKernelIdeal) (hReferenceIdeal := hReferenceIdeal) (hPre_hpmax_in_range := hPre_hpmax_in_range)
-- ==== Pre_hpmax_in_range.lean ====
abbrev S4096x200x27 : Shape := ⟨3, ![4096, 200, 27]⟩
abbrev S32x10 : Shape := ⟨2, ![32, 10]⟩
abbrev S4096x200x1 : Shape := ⟨3, ![4096, 200, 1]⟩
abbrev S4096x200 : Shape := ⟨2, ![4096, 200]⟩
abbrev S_ : Shape := ⟨0, ![]⟩

class Facts : Prop where
  slices_S4096x200x27_S4096x200x1_0_0_11 : S4096x200x27.Slices ![0, 0, 11] S4096x200x1
  shapeCasts_S4096x200x1_S4096x200 : S4096x200x1.ShapeCasts S4096x200
  bcast_S_S4096x200 : S_.BroadcastsInDim S4096x200 (![] : Fin 0 → Fin S4096x200.rank)

variable [Facts]

def fn {F : FTy → Type} [FloatOps F] (main_arg0 : FVec F S4096x200x27 .f32) (main_arg1 : FVec F S32x10 .f32) : IVec S4096x200 1 :=
  let main_v0 : FVec F S4096x200x1 .f32 := (extractStridedSlice S4096x200x1 ![0, 0, 11] · slices_S4096x200x27_S4096x200x1_0_0_11) main_arg0
  let main_v1 : FVec F S4096x200 .f32 := shapeCast S4096x200 main_v0 shapeCasts_S4096x200x1_S4096x200
  let main_cst : FVec F S_ .f32 := constant S_ .f32 0x00000000#32
  let main_v2 : FVec F S4096x200 .f32 := broadcastInDim S4096x200 ![] bcast_S_S4096x200 main_cst
  let main_v3 : IVec S4096x200 1 := cmpf .oge main_v1 main_v2
  let main_cst_0 : FVec F S_ .f32 := constant S_ .f32 0x7F800000#32
  let main_v4 : FVec F S4096x200 .f32 := broadcastInDim S4096x200 ![] bcast_S_S4096x200 main_cst_0
  let main_v5 : IVec S4096x200 1 := cmpf .olt main_v1 main_v4
  let main_v6 : IVec S4096x200 1 := andi main_v3 main_v5
  main_v6
-- ==== Kernel.lean ====
abbrev S4096x200x27 : Shape := ⟨3, ![4096, 200, 27]⟩
abbrev S32x10 : Shape := ⟨2, ![32, 10]⟩
abbrev S22118400 : Shape := ⟨1, ![22118400]⟩
abbrev S320 : Shape := ⟨1, ![320]⟩
abbrev S26214400 : Shape := ⟨1, ![26214400]⟩
abbrev S27648 : Shape := ⟨1, ![27648]⟩
abbrev S32768 : Shape := ⟨1, ![32768]⟩
abbrev S_ : Shape := ⟨0, ![]⟩
abbrev S16 : Shape := ⟨1, ![16]⟩
abbrev S4096x200x32 : Shape := ⟨3, ![4096, 200, 32]⟩

abbrev nBuf : Table → Nat
  | .hbm => 6
  | .local .scVector .vmem => 5
  | _ => 0

abbrev bufTy : (tb : Table) → Fin (nBuf tb) → BufTy
  | .hbm, ⟨0, _⟩ => ⟨S4096x200x27, .f32⟩
  | .hbm, ⟨1, _⟩ => ⟨S32x10, .f32⟩
  | .hbm, ⟨2, _⟩ => ⟨S22118400, .f32⟩
  | .hbm, ⟨3, _⟩ => ⟨S320, .f32⟩
  | .hbm, ⟨4, _⟩ => ⟨S26214400, .f32⟩
  | .hbm, ⟨5, _⟩ => ⟨S4096x200x32, .f32⟩
  | .local .scVector .vmem, ⟨0, _⟩ => ⟨S320, .f32⟩
  | .local .scVector .vmem, ⟨1, _⟩ => ⟨S27648, .f32⟩
  | .local .scVector .vmem, ⟨2, _⟩ => ⟨S27648, .f32⟩
  | .local .scVector .vmem, ⟨3, _⟩ => ⟨S32768, .f32⟩
  | .local .scVector .vmem, ⟨4, _⟩ => ⟨S32768, .f32⟩
  | _, _ => ⟨S4096x200x27, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v7 : BitVec 32 := Scalar.muli v1 c25600_i32
  let c0_i32 : BitVec 32 := 0#32
  let v8 : BitVec 32 := Scalar.addi v7 c0_i32
  let c27_i32_0 : BitVec 32 := 27#32
  let v9 : BitVec 32 := Scalar.muli v8 c27_i32_0
  ![v9.toNat]
@[reducible] def k0_t1_loop : Scf.Loop 32 :=
  let c0_i32_2 : BitVec 32 := 0#32
  let c25_i32 : BitVec 32 := 25#32
  let v12 : BitVec 32 := Scalar.addi c0_i32_2 c25_i32
  let c1_i32 : BitVec 32 := 1#32
  ⟨c0_i32_2, v12, c1_i32⟩
def k0_cond1 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c2_i32_8 : BitVec 32 := 2#32
  let c0_i32_9 : BitVec 32 := 0#32
  let v17 : BitVec 1 := Scalar.cmpi .eq c2_i32_8 c0_i32_9
  let c1_i32_10 : BitVec 32 := 1#32
  let v18 : BitVec 32 := Scalar.select v17 c1_i32_10 c2_i32_8
  let v19 : BitVec 32 := Scalar.remsi arg14 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c0_i32_14 : BitVec 32 := 0#32
  let v27 : BitVec 1 := Scalar.cmpi .eq v26 c0_i32_14
  let v28 : BitVec 32 := Scalar.extui v27
  let c0_i32_15 : BitVec 32 := 0#32
  let v29 : BitVec 1 := Scalar.cmpi .ne v28 c0_i32_15
  v29

def k0_cond2 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_26 : BitVec 32 := 1#32
  let v45 : BitVec 32 := Scalar.addi arg14 c1_i32_26
  let c25_i32_27 : BitVec 32 := 25#32
  let v46 : BitVec 1 := Scalar.cmpi .slt v45 c25_i32_27
  let v47 : BitVec 32 := Scalar.extui v46
  let c0_i32_28 : BitVec 32 := 0#32
  let v48 : BitVec 1 := Scalar.cmpi .ne v47 c0_i32_28
  v48

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v7 : BitVec 32 := Scalar.muli v1 c25600_i32
  let c0_i32_2 : BitVec 32 := 0#32
  let c1_i32 : BitVec 32 := 1#32
  let arg14 : BitVec 32 := Scf.iv c0_i32_2 c1_i32 k0_t1
  let c1_i32_36 : BitVec 32 := 1#32
  let v58 : BitVec 32 := Scalar.addi arg14 c1_i32_36
  let c1024_i32_37 : BitVec 32 := 1024#32
  let v59 : BitVec 32 := Scalar.muli v58 c1024_i32_37
  let v60 : BitVec 32 := Scalar.addi v7 v59
  let c27_i32_38 : BitVec 32 := 27#32
  let v61 : BitVec 32 := Scalar.muli v60 c27_i32_38
  ![v61.toNat]
@[reducible] def k0_t2_loop : Scf.Loop 32 :=
  let c0_i32_32 : BitVec 32 := 0#32
  let c64_i32 : BitVec 32 := 64#32
  let v52 : BitVec 32 := Scalar.addi c0_i32_32 c64_i32
  let c1_i32_33 : BitVec 32 := 1#32
  ⟨c0_i32_32, v52, c1_i32_33⟩

def k0_chk1 (k0_t1 : Fin k0_t1_loop.trips) (v61 : IVec S16 32) : Prop :=
  (∀ (k0_h1 : k0_cond1 k0_t1 = 1#1), ∀ a x, ((![v61] : Fin 1 → IVec S16 32) a x).toNat < S27648.size a)
theorem k0_idx1_inb : ∀ (k0_t1 : Fin k0_t1_loop.trips) (v61 : IVec S16 32) (k0_hw1 : k0_chk1 k0_t1 v61), ∀ (k0_h1 : k0_cond1 k0_t1 = 1#1), ∀ a x, ((![v61] : Fin 1 → IVec S16 32) a x).toNat < S27648.size a := fun k0_t1 v61 k0_hw1 k0_h1 => k0_hw1 k0_h1

def k0_chk2 (k0_t1 : Fin k0_t1_loop.trips) (v67 : IVec S16 32) : Prop :=
  (∀ (k0_h1 : k0_cond1 k0_t1 = 1#1), ∀ a x, ((![v67] : Fin 1 → IVec S16 32) a x).toNat < S27648.size a)
theorem k0_idx2_inb : ∀ (k0_t1 : Fin k0_t1_loop.trips) (v67 : IVec S16 32) (k0_hw2 : k0_chk2 k0_t1 v67), ∀ (k0_h1 : k0_cond1 k0_t1 = 1#1), ∀ a x, ((![v67] : Fin 1 → IVec S16 32) a x).toNat < S27648.size a := fun k0_t1 v67 k0_hw2 k0_h1 => k0_hw2 k0_h1

def k0_chk3 (k0_t1 : Fin k0_t1_loop.trips) (v119 : IVec S16 32) : Prop :=
  (∀ (k0_h1 : k0_cond1 k0_t1 = 1#1), ∀ a x, ((![v119] : Fin 1 → IVec S16 32) a x).toNat < S320.size a)
theorem k0_idx3_inb : ∀ (k0_t1 : Fin k0_t1_loop.trips) (v119 : IVec S16 32) (k0_hw3 : k0_chk3 k0_t1 v119), ∀ (k0_h1 : k0_cond1 k0_t1 = 1#1), ∀ a x, ((![v119] : Fin 1 → IVec S16 32) a x).toNat < S320.size a := fun k0_t1 v119 k0_hw3 k0_h1 => k0_hw3 k0_h1

def k0_chk4 (k0_t1 : Fin k0_t1_loop.trips) (v122 : IVec S16 32) : Prop :=
  (∀ (k0_h1 : k0_cond1 k0_t1 = 1#1), ∀ a x, ((![v122] : Fin 1 → IVec S16 32) a x).toNat < S32768.size a)
theorem k0_idx4_inb : ∀ (k0_t1 : Fin k0_t1_loop.trips) (v122 : IVec S16 32) (k0_hw4 : k0_chk4 k0_t1 v122), ∀ (k0_h1 : k0_cond1 k0_t1 = 1#1), ∀ a x, ((![v122] : Fin 1 → IVec S16 32) a x).toNat < S32768.size a := fun k0_t1 v122 k0_hw4 k0_h1 => k0_hw4 k0_h1

def k0_chk5 (k0_t1 : Fin k0_t1_loop.trips) (v124 : IVec S16 32) : Prop :=
  (∀ (k0_h1 : k0_cond1 k0_t1 = 1#1), ∀ a x, ((![v124] : Fin 1 → IVec S16 32) a x).toNat < S320.size a)
theorem k0_idx5_inb : ∀ (k0_t1 : Fin k0_t1_loop.trips) (v124 : IVec S16 32) (k0_hw5 : k0_chk5 k0_t1 v124), ∀ (k0_h1 : k0_cond1 k0_t1 = 1#1), ∀ a x, ((![v124] : Fin 1 → IVec S16 32) a x).toNat < S320.size a := fun k0_t1 v124 k0_hw5 k0_h1 => k0_hw5 k0_h1

def k0_chk6 (k0_t1 : Fin k0_t1_loop.trips) (v127 : IVec S16 32) : Prop :=
  (∀ (k0_h1 : k0_cond1 k0_t1 = 1#1), ∀ a x, ((![v127] : Fin 1 → IVec S16 32) a x).toNat < S32768.size a)
theorem k0_idx6_inb : ∀ (k0_t1 : Fin k0_t1_loop.trips) (v127 : IVec S16 32) (k0_hw6 : k0_chk6 k0_t1 v127), ∀ (k0_h1 : k0_cond1 k0_t1 = 1#1), ∀ a x, ((![v127] : Fin 1 → IVec S16 32) a x).toNat < S32768.size a := fun k0_t1 v127 k0_hw6 k0_h1 => k0_hw6 k0_h1

def k0_chk7 (k0_t1 : Fin k0_t1_loop.trips) (v129 : IVec S16 32) : Prop :=
  (∀ (k0_h1 : k0_cond1 k0_t1 = 1#1), ∀ a x, ((![v129] : Fin 1 → IVec S16 32) a x).toNat < S320.size a)
theorem k0_idx7_inb : ∀ (k0_t1 : Fin k0_t1_loop.trips) (v129 : IVec S16 32) (k0_hw7 : k0_chk7 k0_t1 v129), ∀ (k0_h1 : k0_cond1 k0_t1 = 1#1), ∀ a x, ((![v129] : Fin 1 → IVec S16 32) a x).toNat < S320.size a := fun k0_t1 v129 k0_hw7 k0_h1 => k0_hw7 k0_h1

def k0_chk8 (k0_t1 : Fin k0_t1_loop.trips) (v132 : IVec S16 32) : Prop :=
  (∀ (k0_h1 : k0_cond1 k0_t1 = 1#1), ∀ a x, ((![v132] : Fin 1 → IVec S16 32) a x).toNat < S32768.size a)
theorem k0_idx8_inb : ∀ (k0_t1 : Fin k0_t1_loop.trips) (v132 : IVec S16 32) (k0_hw8 : k0_chk8 k0_t1 v132), ∀ (k0_h1 : k0_cond1 k0_t1 = 1#1), ∀ a x, ((![v132] : Fin 1 → IVec S16 32) a x).toNat < S32768.size a := fun k0_t1 v132 k0_hw8 k0_h1 => k0_hw8 k0_h1

def k0_chk9 (k0_t1 : Fin k0_t1_loop.trips) (v134 : IVec S16 32) : Prop :=
  (∀ (k0_h1 : k0_cond1 k0_t1 = 1#1), ∀ a x, ((![v134] : Fin 1 → IVec S16 32) a x).toNat < S320.size a)
theorem k0_idx9_inb : ∀ (k0_t1 : Fin k0_t1_loop.trips) (v134 : IVec S16 32) (k0_hw9 : k0_chk9 k0_t1 v134), ∀ (k0_h1 : k0_cond1 k0_t1 = 1#1), ∀ a x, ((![v134] : Fin 1 → IVec S16 32) a x).toNat < S320.size a := fun k0_t1 v134 k0_hw9 k0_h1 => k0_hw9 k0_h1

def k0_chk10 (k0_t1 : Fin k0_t1_loop.trips) (v137 : IVec S16 32) : Prop :=
  (∀ (k0_h1 : k0_cond1 k0_t1 = 1#1), ∀ a x, ((![v137] : Fin 1 → IVec S16 32) a x).toNat < S32768.size a)
theorem k0_idx10_inb : ∀ (k0_t1 : Fin k0_t1_loop.trips) (v137 : IVec S16 32) (k0_hw10 : k0_chk10 k0_t1 v137), ∀ (k0_h1 : k0_cond1 k0_t1 = 1#1), ∀ a x, ((![v137] : Fin 1 → IVec S16 32) a x).toNat < S32768.size a := fun k0_t1 v137 k0_hw10 k0_h1 => k0_hw10 k0_h1

def k0_chk11 (k0_t1 : Fin k0_t1_loop.trips) (v139 : IVec S16 32) : Prop :=
  (∀ (k0_h1 : k0_cond1 k0_t1 = 1#1), ∀ a x, ((![v139] : Fin 1 → IVec S16 32) a x).toNat < S320.size a)
theorem k0_idx11_inb : ∀ (k0_t1 : Fin k0_t1_loop.trips) (v139 : IVec S16 32) (k0_hw11 : k0_chk11 k0_t1 v139), ∀ (k0_h1 : k0_cond1 k0_t1 = 1#1), ∀ a x, ((![v139] : Fin 1 → IVec S16 32) a x).toNat < S320.size a := fun k0_t1 v139 k0_hw11 k0_h1 => k0_hw11 k0_h1

def k0_chk12 (k0_t1 : Fin k0_t1_loop.trips) (v142 : IVec S16 32) : Prop :=
  (∀ (k0_h1 : k0_cond1 k0_t1 = 1#1), ∀ a x, ((![v142] : Fin 1 → IVec S16 32) a x).toNat < S32768.size a)
theorem k0_idx12_inb : ∀ (k0_t1 : Fin k0_t1_loop.trips) (v142 : IVec S16 32) (k0_hw12 : k0_chk12 k0_t1 v142), ∀ (k0_h1 : k0_cond1 k0_t1 = 1#1), ∀ a x, ((![v142] : Fin 1 → IVec S16 32) a x).toNat < S32768.size a := fun k0_t1 v142 k0_hw12 k0_h1 => k0_hw12 k0_h1

def k0_chk13 (k0_t1 : Fin k0_t1_loop.trips) (v144 : IVec S16 32) : Prop :=
  (∀ (k0_h1 : k0_cond1 k0_t1 = 1#1), ∀ a x, ((![v144] : Fin 1 → IVec S16 32) a x).toNat < S320.size a)
theorem k0_idx13_inb : ∀ (k0_t1 : Fin k0_t1_loop.trips) (v144 : IVec S16 32) (k0_hw13 : k0_chk13 k0_t1 v144), ∀ (k0_h1 : k0_cond1 k0_t1 = 1#1), ∀ a x, ((![v144] : Fin 1 → IVec S16 32) a x).toNat < S320.size a := fun k0_t1 v144 k0_hw13 k0_h1 => k0_hw13 k0_h1

def k0_chk14 (k0_t1 : Fin k0_t1_loop.trips) (v147 : IVec S16 32) : Prop :=
  (∀ (k0_h1 : k0_cond1 k0_t1 = 1#1), ∀ a x, ((![v147] : Fin 1 → IVec S16 32) a x).toNat < S32768.size a)
theorem k0_idx14_inb : ∀ (k0_t1 : Fin k0_t1_loop.trips) (v147 : IVec S16 32) (k0_hw14 : k0_chk14 k0_t1 v147), ∀ (k0_h1 : k0_cond1 k0_t1 = 1#1), ∀ a x, ((![v147] : Fin 1 → IVec S16 32) a x).toNat < S32768.size a := fun k0_t1 v147 k0_hw14 k0_h1 => k0_hw14 k0_h1

def k0_chk15 (k0_t1 : Fin k0_t1_loop.trips) (v149 : IVec S16 32) : Prop :=
  (∀ (k0_h1 : k0_cond1 k0_t1 = 1#1), ∀ a x, ((![v149] : Fin 1 → IVec S16 32) a x).toNat < S320.size a)
theorem k0_idx15_inb : ∀ (k0_t1 : Fin k0_t1_loop.trips) (v149 : IVec S16 32) (k0_hw15 : k0_chk15 k0_t1 v149), ∀ (k0_h1 : k0_cond1 k0_t1 = 1#1), ∀ a x, ((![v149] : Fin 1 → IVec S16 32) a x).toNat < S320.size a := fun k0_t1 v149 k0_hw15 k0_h1 => k0_hw15 k0_h1

def k0_chk16 (k0_t1 : Fin k0_t1_loop.trips) (v152 : IVec S16 32) : Prop :=
  (∀ (k0_h1 : k0_cond1 k0_t1 = 1#1), ∀ a x, ((![v152] : Fin 1 → IVec S16 32) a x).toNat < S32768.size a)
theorem k0_idx16_inb : ∀ (k0_t1 : Fin k0_t1_loop.trips) (v152 : IVec S16 32) (k0_hw16 : k0_chk16 k0_t1 v152), ∀ (k0_h1 : k0_cond1 k0_t1 = 1#1), ∀ a x, ((![v152] : Fin 1 → IVec S16 32) a x).toNat < S32768.size a := fun k0_t1 v152 k0_hw16 k0_h1 => k0_hw16 k0_h1

def k0_chk17 (k0_t1 : Fin k0_t1_loop.trips) (v154 : IVec S16 32) : Prop :=
  (∀ (k0_h1 : k0_cond1 k0_t1 = 1#1), ∀ a x, ((![v154] : Fin 1 → IVec S16 32) a x).toNat < S320.size a)
theorem k0_idx17_inb : ∀ (k0_t1 : Fin k0_t1_loop.trips) (v154 : IVec S16 32) (k0_hw17 : k0_chk17 k0_t1 v154), ∀ (k0_h1 : k0_cond1 k0_t1 = 1#1), ∀ a x, ((![v154] : Fin 1 → IVec S16 32) a x).toNat < S320.size a := fun k0_t1 v154 k0_hw17 k0_h1 => k0_hw17 k0_h1

def k0_chk18 (k0_t1 : Fin k0_t1_loop.trips) (v157 : IVec S16 32) : Prop :=
  (∀ (k0_h1 : k0_cond1 k0_t1 = 1#1), ∀ a x, ((![v157] : Fin 1 → IVec S16 32) a x).toNat < S32768.size a)
theorem k0_idx18_inb : ∀ (k0_t1 : Fin k0_t1_loop.trips) (v157 : IVec S16 32) (k0_hw18 : k0_chk18 k0_t1 v157), ∀ (k0_h1 : k0_cond1 k0_t1 = 1#1), ∀ a x, ((![v157] : Fin 1 → IVec S16 32) a x).toNat < S32768.size a := fun k0_t1 v157 k0_hw18 k0_h1 => k0_hw18 k0_h1

def k0_chk19 (k0_t1 : Fin k0_t1_loop.trips) (v159 : IVec S16 32) : Prop :=
  (∀ (k0_h1 : k0_cond1 k0_t1 = 1#1), ∀ a x, ((![v159] : Fin 1 → IVec S16 32) a x).toNat < S320.size a)
theorem k0_idx19_inb : ∀ (k0_t1 : Fin k0_t1_loop.trips) (v159 : IVec S16 32) (k0_hw19 : k0_chk19 k0_t1 v159), ∀ (k0_h1 : k0_cond1 k0_t1 = 1#1), ∀ a x, ((![v159] : Fin 1 → IVec S16 32) a x).toNat < S320.size a := fun k0_t1 v159 k0_hw19 k0_h1 => k0_hw19 k0_h1

def k0_chk20 (k0_t1 : Fin k0_t1_loop.trips) (v162 : IVec S16 32) : Prop :=
  (∀ (k0_h1 : k0_cond1 k0_t1 = 1#1), ∀ a x, ((![v162] : Fin 1 → IVec S16 32) a x).toNat < S32768.size a)
theorem k0_idx20_inb : ∀ (k0_t1 : Fin k0_t1_loop.trips) (v162 : IVec S16 32) (k0_hw20 : k0_chk20 k0_t1 v162), ∀ (k0_h1 : k0_cond1 k0_t1 = 1#1), ∀ a x, ((![v162] : Fin 1 → IVec S16 32) a x).toNat < S32768.size a := fun k0_t1 v162 k0_hw20 k0_h1 => k0_hw20 k0_h1

def k0_chk21 (k0_t1 : Fin k0_t1_loop.trips) (v164 : IVec S16 32) : Prop :=
  (∀ (k0_h1 : k0_cond1 k0_t1 = 1#1), ∀ a x, ((![v164] : Fin 1 → IVec S16 32) a x).toNat < S320.size a)
theorem k0_idx21_inb : ∀ (k0_t1 : Fin k0_t1_loop.trips) (v164 : IVec S16 32) (k0_hw21 : k0_chk21 k0_t1 v164), ∀ (k0_h1 : k0_cond1 k0_t1 = 1#1), ∀ a x, ((![v164] : Fin 1 → IVec S16 32) a x).toNat < S320.size a := fun k0_t1 v164 k0_hw21 k0_h1 => k0_hw21 k0_h1

def k0_chk22 (k0_t1 : Fin k0_t1_loop.trips) (v167 : IVec S16 32) : Prop :=
  (∀ (k0_h1 : k0_cond1 k0_t1 = 1#1), ∀ a x, ((![v167] : Fin 1 → IVec S16 32) a x).toNat < S32768.size a)
theorem k0_idx22_inb : ∀ (k0_t1 : Fin k0_t1_loop.trips) (v167 : IVec S16 32) (k0_hw22 : k0_chk22 k0_t1 v167), ∀ (k0_h1 : k0_cond1 k0_t1 = 1#1), ∀ a x, ((![v167] : Fin 1 → IVec S16 32) a x).toNat < S32768.size a := fun k0_t1 v167 k0_hw22 k0_h1 => k0_hw22 k0_h1

def k0_chk23 (k0_t1 : Fin k0_t1_loop.trips) (v169 : IVec S16 32) : Prop :=
  (∀ (k0_h1 : k0_cond1 k0_t1 = 1#1), ∀ a x, ((![v169] : Fin 1 → IVec S16 32) a x).toNat < S320.size a)
theorem k0_idx23_inb : ∀ (k0_t1 : Fin k0_t1_loop.trips) (v169 : IVec S16 32) (k0_hw23 : k0_chk23 k0_t1 v169), ∀ (k0_h1 : k0_cond1 k0_t1 = 1#1), ∀ a x, ((![v169] : Fin 1 → IVec S16 32) a x).toNat < S320.size a := fun k0_t1 v169 k0_hw23 k0_h1 => k0_hw23 k0_h1

def k0_chk24 (k0_t1 : Fin k0_t1_loop.trips) (v172 : IVec S16 32) : Prop :=
  (∀ (k0_h1 : k0_cond1 k0_t1 = 1#1), ∀ a x, ((![v172] : Fin 1 → IVec S16 32) a x).toNat < S32768.size a)
theorem k0_idx24_inb : ∀ (k0_t1 : Fin k0_t1_loop.trips) (v172 : IVec S16 32) (k0_hw24 : k0_chk24 k0_t1 v172), ∀ (k0_h1 : k0_cond1 k0_t1 = 1#1), ∀ a x, ((![v172] : Fin 1 → IVec S16 32) a x).toNat < S32768.size a := fun k0_t1 v172 k0_hw24 k0_h1 => k0_hw24 k0_h1

def k0_chk25 (k0_t1 : Fin k0_t1_loop.trips) (v174 : IVec S16 32) : Prop :=
  (∀ (k0_h1 : k0_cond1 k0_t1 = 1#1), ∀ a x, ((![v174] : Fin 1 → IVec S16 32) a x).toNat < S320.size a)
theorem k0_idx25_inb : ∀ (k0_t1 : Fin k0_t1_loop.trips) (v174 : IVec S16 32) (k0_hw25 : k0_chk25 k0_t1 v174), ∀ (k0_h1 : k0_cond1 k0_t1 = 1#1), ∀ a x, ((![v174] : Fin 1 → IVec S16 32) a x).toNat < S320.size a := fun k0_t1 v174 k0_hw25 k0_h1 => k0_hw25 k0_h1

def k0_chk26 (k0_t1 : Fin k0_t1_loop.trips) (v177 : IVec S16 32) : Prop :=
  (∀ (k0_h1 : k0_cond1 k0_t1 = 1#1), ∀ a x, ((![v177] : Fin 1 → IVec S16 32) a x).toNat < S32768.size a)
theorem k0_idx26_inb : ∀ (k0_t1 : Fin k0_t1_loop.trips) (v177 : IVec S16 32) (k0_hw26 : k0_chk26 k0_t1 v177), ∀ (k0_h1 : k0_cond1 k0_t1 = 1#1), ∀ a x, ((![v177] : Fin 1 → IVec S16 32) a x).toNat < S32768.size a := fun k0_t1 v177 k0_hw26 k0_h1 => k0_hw26 k0_h1

def k0_chk27 (k0_t1 : Fin k0_t1_loop.trips) (v179 : IVec S16 32) : Prop :=
  (∀ (k0_h1 : k0_cond1 k0_t1 = 1#1), ∀ a x, ((![v179] : Fin 1 → IVec S16 32) a x).toNat < S320.size a)
theorem k0_idx27_inb : ∀ (k0_t1 : Fin k0_t1_loop.trips) (v179 : IVec S16 32) (k0_hw27 : k0_chk27 k0_t1 v179), ∀ (k0_h1 : k0_cond1 k0_t1 = 1#1), ∀ a x, ((![v179] : Fin 1 → IVec S16 32) a x).toNat < S320.size a := fun k0_t1 v179 k0_hw27 k0_h1 => k0_hw27 k0_h1

def k0_chk28 (k0_t1 : Fin k0_t1_loop.trips) (v182 : IVec S16 32) : Prop :=
  (∀ (k0_h1 : k0_cond1 k0_t1 = 1#1), ∀ a x, ((![v182] : Fin 1 → IVec S16 32) a x).toNat < S32768.size a)
theorem k0_idx28_inb : ∀ (k0_t1 : Fin k0_t1_loop.trips) (v182 : IVec S16 32) (k0_hw28 : k0_chk28 k0_t1 v182), ∀ (k0_h1 : k0_cond1 k0_t1 = 1#1), ∀ a x, ((![v182] : Fin 1 → IVec S16 32) a x).toNat < S32768.size a := fun k0_t1 v182 k0_hw28 k0_h1 => k0_hw28 k0_h1

def k0_chk29 (k0_t1 : Fin k0_t1_loop.trips) (v184 : IVec S16 32) : Prop :=
  (∀ (k0_h1 : k0_cond1 k0_t1 = 1#1), ∀ a x, ((![v184] : Fin 1 → IVec S16 32) a x).toNat < S320.size a)
theorem k0_idx29_inb : ∀ (k0_t1 : Fin k0_t1_loop.trips) (v184 : IVec S16 32) (k0_hw29 : k0_chk29 k0_t1 v184), ∀ (k0_h1 : k0_cond1 k0_t1 = 1#1), ∀ a x, ((![v184] : Fin 1 → IVec S16 32) a x).toNat < S320.size a := fun k0_t1 v184 k0_hw29 k0_h1 => k0_hw29 k0_h1

def k0_chk30 (k0_t1 : Fin k0_t1_loop.trips) (v187 : IVec S16 32) : Prop :=
  (∀ (k0_h1 : k0_cond1 k0_t1 = 1#1), ∀ a x, ((![v187] : Fin 1 → IVec S16 32) a x).toNat < S32768.size a)
theorem k0_idx30_inb : ∀ (k0_t1 : Fin k0_t1_loop.trips) (v187 : IVec S16 32) (k0_hw30 : k0_chk30 k0_t1 v187), ∀ (k0_h1 : k0_cond1 k0_t1 = 1#1), ∀ a x, ((![v187] : Fin 1 → IVec S16 32) a x).toNat < S32768.size a := fun k0_t1 v187 k0_hw30 k0_h1 => k0_hw30 k0_h1

def k0_chk31 (k0_t1 : Fin k0_t1_loop.trips) (v189 : IVec S16 32) : Prop :=
  (∀ (k0_h1 : k0_cond1 k0_t1 = 1#1), ∀ a x, ((![v189] : Fin 1 → IVec S16 32) a x).toNat < S320.size a)
theorem k0_idx31_inb : ∀ (k0_t1 : Fin k0_t1_loop.trips) (v189 : IVec S16 32) (k0_hw31 : k0_chk31 k0_t1 v189), ∀ (k0_h1 : k0_cond1 k0_t1 = 1#1), ∀ a x, ((![v189] : Fin 1 → IVec S16 32) a x).toNat < S320.size a := fun k0_t1 v189 k0_hw31 k0_h1 => k0_hw31 k0_h1

def k0_chk32 (k0_t1 : Fin k0_t1_loop.trips) (v192 : IVec S16 32) : Prop :=
  (∀ (k0_h1 : k0_cond1 k0_t1 = 1#1), ∀ a x, ((![v192] : Fin 1 → IVec S16 32) a x).toNat < S32768.size a)
theorem k0_idx32_inb : ∀ (k0_t1 : Fin k0_t1_loop.trips) (v192 : IVec S16 32) (k0_hw32 : k0_chk32 k0_t1 v192), ∀ (k0_h1 : k0_cond1 k0_t1 = 1#1), ∀ a x, ((![v192] : Fin 1 → IVec S16 32) a x).toNat < S32768.size a := fun k0_t1 v192 k0_hw32 k0_h1 => k0_hw32 k0_h1

def k0_chk33 (k0_t1 : Fin k0_t1_loop.trips) (v194 : IVec S16 32) : Prop :=
  (∀ (k0_h1 : k0_cond1 k0_t1 = 1#1), ∀ a x, ((![v194] : Fin 1 → IVec S16 32) a x).toNat < S320.size a)
theorem k0_idx33_inb : ∀ (k0_t1 : Fin k0_t1_loop.trips) (v194 : IVec S16 32) (k0_hw33 : k0_chk33 k0_t1 v194), ∀ (k0_h1 : k0_cond1 k0_t1 = 1#1), ∀ a x, ((![v194] : Fin 1 → IVec S16 32) a x).toNat < S320.size a := fun k0_t1 v194 k0_hw33 k0_h1 => k0_hw33 k0_h1

def k0_chk34 (k0_t1 : Fin k0_t1_loop.trips) (v197 : IVec S16 32) : Prop :=
  (∀ (k0_h1 : k0_cond1 k0_t1 = 1#1), ∀ a x, ((![v197] : Fin 1 → IVec S16 32) a x).toNat < S32768.size a)
theorem k0_idx34_inb : ∀ (k0_t1 : Fin k0_t1_loop.trips) (v197 : IVec S16 32) (k0_hw34 : k0_chk34 k0_t1 v197), ∀ (k0_h1 : k0_cond1 k0_t1 = 1#1), ∀ a x, ((![v197] : Fin 1 → IVec S16 32) a x).toNat < S32768.size a := fun k0_t1 v197 k0_hw34 k0_h1 => k0_hw34 k0_h1

def k0_chk35 (k0_t1 : Fin k0_t1_loop.trips) (v199 : IVec S16 32) : Prop :=
  (∀ (k0_h1 : k0_cond1 k0_t1 = 1#1), ∀ a x, ((![v199] : Fin 1 → IVec S16 32) a x).toNat < S320.size a)
theorem k0_idx35_inb : ∀ (k0_t1 : Fin k0_t1_loop.trips) (v199 : IVec S16 32) (k0_hw35 : k0_chk35 k0_t1 v199), ∀ (k0_h1 : k0_cond1 k0_t1 = 1#1), ∀ a x, ((![v199] : Fin 1 → IVec S16 32) a x).toNat < S320.size a := fun k0_t1 v199 k0_hw35 k0_h1 => k0_hw35 k0_h1

def k0_chk36 (k0_t1 : Fin k0_t1_loop.trips) (v202 : IVec S16 32) : Prop :=
  (∀ (k0_h1 : k0_cond1 k0_t1 = 1#1), ∀ a x, ((![v202] : Fin 1 → IVec S16 32) a x).toNat < S32768.size a)
theorem k0_idx36_inb : ∀ (k0_t1 : Fin k0_t1_loop.trips) (v202 : IVec S16 32) (k0_hw36 : k0_chk36 k0_t1 v202), ∀ (k0_h1 : k0_cond1 k0_t1 = 1#1), ∀ a x, ((![v202] : Fin 1 → IVec S16 32) a x).toNat < S32768.size a := fun k0_t1 v202 k0_hw36 k0_h1 => k0_hw36 k0_h1

def k0_chk37 (k0_t1 : Fin k0_t1_loop.trips) (v204 : IVec S16 32) : Prop :=
  (∀ (k0_h1 : k0_cond1 k0_t1 = 1#1), ∀ a x, ((![v204] : Fin 1 → IVec S16 32) a x).toNat < S320.size a)
theorem k0_idx37_inb : ∀ (k0_t1 : Fin k0_t1_loop.trips) (v204 : IVec S16 32) (k0_hw37 : k0_chk37 k0_t1 v204), ∀ (k0_h1 : k0_cond1 k0_t1 = 1#1), ∀ a x, ((![v204] : Fin 1 → IVec S16 32) a x).toNat < S320.size a := fun k0_t1 v204 k0_hw37 k0_h1 => k0_hw37 k0_h1

def k0_chk38 (k0_t1 : Fin k0_t1_loop.trips) (v207 : IVec S16 32) : Prop :=
  (∀ (k0_h1 : k0_cond1 k0_t1 = 1#1), ∀ a x, ((![v207] : Fin 1 → IVec S16 32) a x).toNat < S32768.size a)
theorem k0_idx38_inb : ∀ (k0_t1 : Fin k0_t1_loop.trips) (v207 : IVec S16 32) (k0_hw38 : k0_chk38 k0_t1 v207), ∀ (k0_h1 : k0_cond1 k0_t1 = 1#1), ∀ a x, ((![v207] : Fin 1 → IVec S16 32) a x).toNat < S32768.size a := fun k0_t1 v207 k0_hw38 k0_h1 => k0_hw38 k0_h1

def k0_chk39 (k0_t1 : Fin k0_t1_loop.trips) (v209 : IVec S16 32) : Prop :=
  (∀ (k0_h1 : k0_cond1 k0_t1 = 1#1), ∀ a x, ((![v209] : Fin 1 → IVec S16 32) a x).toNat < S320.size a)
theorem k0_idx39_inb : ∀ (k0_t1 : Fin k0_t1_loop.trips) (v209 : IVec S16 32) (k0_hw39 : k0_chk39 k0_t1 v209), ∀ (k0_h1 : k0_cond1 k0_t1 = 1#1), ∀ a x, ((![v209] : Fin 1 → IVec S16 32) a x).toNat < S320.size a := fun k0_t1 v209 k0_hw39 k0_h1 => k0_hw39 k0_h1

def k0_chk40 (k0_t1 : Fin k0_t1_loop.trips) (v212 : IVec S16 32) : Prop :=
  (∀ (k0_h1 : k0_cond1 k0_t1 = 1#1), ∀ a x, ((![v212] : Fin 1 → IVec S16 32) a x).toNat < S32768.size a)
theorem k0_idx40_inb : ∀ (k0_t1 : Fin k0_t1_loop.trips) (v212 : IVec S16 32) (k0_hw40 : k0_chk40 k0_t1 v212), ∀ (k0_h1 : k0_cond1 k0_t1 = 1#1), ∀ a x, ((![v212] : Fin 1 → IVec S16 32) a x).toNat < S32768.size a := fun k0_t1 v212 k0_hw40 k0_h1 => k0_hw40 k0_h1

def k0_chk41 (k0_t1 : Fin k0_t1_loop.trips) (v214 : IVec S16 32) : Prop :=
  (∀ (k0_h1 : k0_cond1 k0_t1 = 1#1), ∀ a x, ((![v214] : Fin 1 → IVec S16 32) a x).toNat < S320.size a)
theorem k0_idx41_inb : ∀ (k0_t1 : Fin k0_t1_loop.trips) (v214 : IVec S16 32) (k0_hw41 : k0_chk41 k0_t1 v214), ∀ (k0_h1 : k0_cond1 k0_t1 = 1#1), ∀ a x, ((![v214] : Fin 1 → IVec S16 32) a x).toNat < S320.size a := fun k0_t1 v214 k0_hw41 k0_h1 => k0_hw41 k0_h1

def k0_chk42 (k0_t1 : Fin k0_t1_loop.trips) (v217 : IVec S16 32) : Prop :=
  (∀ (k0_h1 : k0_cond1 k0_t1 = 1#1), ∀ a x, ((![v217] : Fin 1 → IVec S16 32) a x).toNat < S32768.size a)
theorem k0_idx42_inb : ∀ (k0_t1 : Fin k0_t1_loop.trips) (v217 : IVec S16 32) (k0_hw42 : k0_chk42 k0_t1 v217), ∀ (k0_h1 : k0_cond1 k0_t1 = 1#1), ∀ a x, ((![v217] : Fin 1 → IVec S16 32) a x).toNat < S32768.size a := fun k0_t1 v217 k0_hw42 k0_h1 => k0_hw42 k0_h1

def k0_chk43 (k0_t1 : Fin k0_t1_loop.trips) (v219 : IVec S16 32) : Prop :=
  (∀ (k0_h1 : k0_cond1 k0_t1 = 1#1), ∀ a x, ((![v219] : Fin 1 → IVec S16 32) a x).toNat < S320.size a)
theorem k0_idx43_inb : ∀ (k0_t1 : Fin k0_t1_loop.trips) (v219 : IVec S16 32) (k0_hw43 : k0_chk43 k0_t1 v219), ∀ (k0_h1 : k0_cond1 k0_t1 = 1#1), ∀ a x, ((![v219] : Fin 1 → IVec S16 32) a x).toNat < S320.size a := fun k0_t1 v219 k0_hw43 k0_h1 => k0_hw43 k0_h1

def k0_chk44 (k0_t1 : Fin k0_t1_loop.trips) (v222 : IVec S16 32) : Prop :=
  (∀ (k0_h1 : k0_cond1 k0_t1 = 1#1), ∀ a x, ((![v222] : Fin 1 → IVec S16 32) a x).toNat < S32768.size a)
theorem k0_idx44_inb : ∀ (k0_t1 : Fin k0_t1_loop.trips) (v222 : IVec S16 32) (k0_hw44 : k0_chk44 k0_t1 v222), ∀ (k0_h1 : k0_cond1 k0_t1 = 1#1), ∀ a x, ((![v222] : Fin 1 → IVec S16 32) a x).toNat < S32768.size a := fun k0_t1 v222 k0_hw44 k0_h1 => k0_hw44 k0_h1

def k0_chk45 (k0_t1 : Fin k0_t1_loop.trips) (v224 : IVec S16 32) : Prop :=
  (∀ (k0_h1 : k0_cond1 k0_t1 = 1#1), ∀ a x, ((![v224] : Fin 1 → IVec S16 32) a x).toNat < S320.size a)
theorem k0_idx45_inb : ∀ (k0_t1 : Fin k0_t1_loop.trips) (v224 : IVec S16 32) (k0_hw45 : k0_chk45 k0_t1 v224), ∀ (k0_h1 : k0_cond1 k0_t1 = 1#1), ∀ a x, ((![v224] : Fin 1 → IVec S16 32) a x).toNat < S320.size a := fun k0_t1 v224 k0_hw45 k0_h1 => k0_hw45 k0_h1

def k0_chk46 (k0_t1 : Fin k0_t1_loop.trips) (v227 : IVec S16 32) : Prop :=
  (∀ (k0_h1 : k0_cond1 k0_t1 = 1#1), ∀ a x, ((![v227] : Fin 1 → IVec S16 32) a x).toNat < S32768.size a)
theorem k0_idx46_inb : ∀ (k0_t1 : Fin k0_t1_loop.trips) (v227 : IVec S16 32) (k0_hw46 : k0_chk46 k0_t1 v227), ∀ (k0_h1 : k0_cond1 k0_t1 = 1#1), ∀ a x, ((![v227] : Fin 1 → IVec S16 32) a x).toNat < S32768.size a := fun k0_t1 v227 k0_hw46 k0_h1 => k0_hw46 k0_h1

def k0_chk47 (k0_t1 : Fin k0_t1_loop.trips) (v229 : IVec S16 32) : Prop :=
  (∀ (k0_h1 : k0_cond1 k0_t1 = 1#1), ∀ a x, ((![v229] : Fin 1 → IVec S16 32) a x).toNat < S320.size a)
theorem k0_idx47_inb : ∀ (k0_t1 : Fin k0_t1_loop.trips) (v229 : IVec S16 32) (k0_hw47 : k0_chk47 k0_t1 v229), ∀ (k0_h1 : k0_cond1 k0_t1 = 1#1), ∀ a x, ((![v229] : Fin 1 → IVec S16 32) a x).toNat < S320.size a := fun k0_t1 v229 k0_hw47 k0_h1 => k0_hw47 k0_h1

def k0_chk48 (k0_t1 : Fin k0_t1_loop.trips) (v232 : IVec S16 32) : Prop :=
  (∀ (k0_h1 : k0_cond1 k0_t1 = 1#1), ∀ a x, ((![v232] : Fin 1 → IVec S16 32) a x).toNat < S32768.size a)
theorem k0_idx48_inb : ∀ (k0_t1 : Fin k0_t1_loop.trips) (v232 : IVec S16 32) (k0_hw48 : k0_chk48 k0_t1 v232), ∀ (k0_h1 : k0_cond1 k0_t1 = 1#1), ∀ a x, ((![v232] : Fin 1 → IVec S16 32) a x).toNat < S32768.size a := fun k0_t1 v232 k0_hw48 k0_h1 => k0_hw48 k0_h1

def k0_chk49 (k0_t1 : Fin k0_t1_loop.trips) (v234 : IVec S16 32) : Prop :=
  (∀ (k0_h1 : k0_cond1 k0_t1 = 1#1), ∀ a x, ((![v234] : Fin 1 → IVec S16 32) a x).toNat < S320.size a)
theorem k0_idx49_inb : ∀ (k0_t1 : Fin k0_t1_loop.trips) (v234 : IVec S16 32) (k0_hw49 : k0_chk49 k0_t1 v234), ∀ (k0_h1 : k0_cond1 k0_t1 = 1#1), ∀ a x, ((![v234] : Fin 1 → IVec S16 32) a x).toNat < S320.size a := fun k0_t1 v234 k0_hw49 k0_h1 => k0_hw49 k0_h1

def k0_chk50 (k0_t1 : Fin k0_t1_loop.trips) (v237 : IVec S16 32) : Prop :=
  (∀ (k0_h1 : k0_cond1 k0_t1 = 1#1), ∀ a x, ((![v237] : Fin 1 → IVec S16 32) a x).toNat < S32768.size a)
theorem k0_idx50_inb : ∀ (k0_t1 : Fin k0_t1_loop.trips) (v237 : IVec S16 32) (k0_hw50 : k0_chk50 k0_t1 v237), ∀ (k0_h1 : k0_cond1 k0_t1 = 1#1), ∀ a x, ((![v237] : Fin 1 → IVec S16 32) a x).toNat < S32768.size a := fun k0_t1 v237 k0_hw50 k0_h1 => k0_hw50 k0_h1

def k0_chk51 (k0_t1 : Fin k0_t1_loop.trips) (v239 : IVec S16 32) : Prop :=
  (∀ (k0_h1 : k0_cond1 k0_t1 = 1#1), ∀ a x, ((![v239] : Fin 1 → IVec S16 32) a x).toNat < S320.size a)
theorem k0_idx51_inb : ∀ (k0_t1 : Fin k0_t1_loop.trips) (v239 : IVec S16 32) (k0_hw51 : k0_chk51 k0_t1 v239), ∀ (k0_h1 : k0_cond1 k0_t1 = 1#1), ∀ a x, ((![v239] : Fin 1 → IVec S16 32) a x).toNat < S320.size a := fun k0_t1 v239 k0_hw51 k0_h1 => k0_hw51 k0_h1

def k0_chk52 (k0_t1 : Fin k0_t1_loop.trips) (v242 : IVec S16 32) : Prop :=
  (∀ (k0_h1 : k0_cond1 k0_t1 = 1#1), ∀ a x, ((![v242] : Fin 1 → IVec S16 32) a x).toNat < S32768.size a)
theorem k0_idx52_inb : ∀ (k0_t1 : Fin k0_t1_loop.trips) (v242 : IVec S16 32) (k0_hw52 : k0_chk52 k0_t1 v242), ∀ (k0_h1 : k0_cond1 k0_t1 = 1#1), ∀ a x, ((![v242] : Fin 1 → IVec S16 32) a x).toNat < S32768.size a := fun k0_t1 v242 k0_hw52 k0_h1 => k0_hw52 k0_h1

def k0_chk53 (k0_t1 : Fin k0_t1_loop.trips) (v244 : IVec S16 32) : Prop :=
  (∀ (k0_h1 : k0_cond1 k0_t1 = 1#1), ∀ a x, ((![v244] : Fin 1 → IVec S16 32) a x).toNat < S320.size a)
theorem k0_idx53_inb : ∀ (k0_t1 : Fin k0_t1_loop.trips) (v244 : IVec S16 32) (k0_hw53 : k0_chk53 k0_t1 v244), ∀ (k0_h1 : k0_cond1 k0_t1 = 1#1), ∀ a x, ((![v244] : Fin 1 → IVec S16 32) a x).toNat < S320.size a := fun k0_t1 v244 k0_hw53 k0_h1 => k0_hw53 k0_h1

def k0_chk54 (k0_t1 : Fin k0_t1_loop.trips) (v247 : IVec S16 32) : Prop :=
  (∀ (k0_h1 : k0_cond1 k0_t1 = 1#1), ∀ a x, ((![v247] : Fin 1 → IVec S16 32) a x).toNat < S32768.size a)
theorem k0_idx54_inb : ∀ (k0_t1 : Fin k0_t1_loop.trips) (v247 : IVec S16 32) (k0_hw54 : k0_chk54 k0_t1 v247), ∀ (k0_h1 : k0_cond1 k0_t1 = 1#1), ∀ a x, ((![v247] : Fin 1 → IVec S16 32) a x).toNat < S32768.size a := fun k0_t1 v247 k0_hw54 k0_h1 => k0_hw54 k0_h1

def k0_chk55 (k0_t1 : Fin k0_t1_loop.trips) (v249 : IVec S16 32) : Prop :=
  (∀ (k0_h1 : k0_cond1 k0_t1 = 1#1), ∀ a x, ((![v249] : Fin 1 → IVec S16 32) a x).toNat < S320.size a)
theorem k0_idx55_inb : ∀ (k0_t1 : Fin k0_t1_loop.trips) (v249 : IVec S16 32) (k0_hw55 : k0_chk55 k0_t1 v249), ∀ (k0_h1 : k0_cond1 k0_t1 = 1#1), ∀ a x, ((![v249] : Fin 1 → IVec S16 32) a x).toNat < S320.size a := fun k0_t1 v249 k0_hw55 k0_h1 => k0_hw55 k0_h1

def k0_chk56 (k0_t1 : Fin k0_t1_loop.trips) (v252 : IVec S16 32) : Prop :=
  (∀ (k0_h1 : k0_cond1 k0_t1 = 1#1), ∀ a x, ((![v252] : Fin 1 → IVec S16 32) a x).toNat < S32768.size a)
theorem k0_idx56_inb : ∀ (k0_t1 : Fin k0_t1_loop.trips) (v252 : IVec S16 32) (k0_hw56 : k0_chk56 k0_t1 v252), ∀ (k0_h1 : k0_cond1 k0_t1 = 1#1), ∀ a x, ((![v252] : Fin 1 → IVec S16 32) a x).toNat < S32768.size a := fun k0_t1 v252 k0_hw56 k0_h1 => k0_hw56 k0_h1

def k0_chk57 (k0_t1 : Fin k0_t1_loop.trips) (v254 : IVec S16 32) : Prop :=
  (∀ (k0_h1 : k0_cond1 k0_t1 = 1#1), ∀ a x, ((![v254] : Fin 1 → IVec S16 32) a x).toNat < S320.size a)
theorem k0_idx57_inb : ∀ (k0_t1 : Fin k0_t1_loop.trips) (v254 : IVec S16 32) (k0_hw57 : k0_chk57 k0_t1 v254), ∀ (k0_h1 : k0_cond1 k0_t1 = 1#1), ∀ a x, ((![v254] : Fin 1 → IVec S16 32) a x).toNat < S320.size a := fun k0_t1 v254 k0_hw57 k0_h1 => k0_hw57 k0_h1

def k0_chk58 (k0_t1 : Fin k0_t1_loop.trips) (v257 : IVec S16 32) : Prop :=
  (∀ (k0_h1 : k0_cond1 k0_t1 = 1#1), ∀ a x, ((![v257] : Fin 1 → IVec S16 32) a x).toNat < S32768.size a)
theorem k0_idx58_inb : ∀ (k0_t1 : Fin k0_t1_loop.trips) (v257 : IVec S16 32) (k0_hw58 : k0_chk58 k0_t1 v257), ∀ (k0_h1 : k0_cond1 k0_t1 = 1#1), ∀ a x, ((![v257] : Fin 1 → IVec S16 32) a x).toNat < S32768.size a := fun k0_t1 v257 k0_hw58 k0_h1 => k0_hw58 k0_h1

def k0_chk59 (k0_t1 : Fin k0_t1_loop.trips) (v259 : IVec S16 32) : Prop :=
  (∀ (k0_h1 : k0_cond1 k0_t1 = 1#1), ∀ a x, ((![v259] : Fin 1 → IVec S16 32) a x).toNat < S320.size a)
theorem k0_idx59_inb : ∀ (k0_t1 : Fin k0_t1_loop.trips) (v259 : IVec S16 32) (k0_hw59 : k0_chk59 k0_t1 v259), ∀ (k0_h1 : k0_cond1 k0_t1 = 1#1), ∀ a x, ((![v259] : Fin 1 → IVec S16 32) a x).toNat < S320.size a := fun k0_t1 v259 k0_hw59 k0_h1 => k0_hw59 k0_h1

def k0_chk60 (k0_t1 : Fin k0_t1_loop.trips) (v262 : IVec S16 32) : Prop :=
  (∀ (k0_h1 : k0_cond1 k0_t1 = 1#1), ∀ a x, ((![v262] : Fin 1 → IVec S16 32) a x).toNat < S32768.size a)
theorem k0_idx60_inb : ∀ (k0_t1 : Fin k0_t1_loop.trips) (v262 : IVec S16 32) (k0_hw60 : k0_chk60 k0_t1 v262), ∀ (k0_h1 : k0_cond1 k0_t1 = 1#1), ∀ a x, ((![v262] : Fin 1 → IVec S16 32) a x).toNat < S32768.size a := fun k0_t1 v262 k0_hw60 k0_h1 => k0_hw60 k0_h1

def k0_chk61 (k0_t1 : Fin k0_t1_loop.trips) (v264 : IVec S16 32) : Prop :=
  (∀ (k0_h1 : k0_cond1 k0_t1 = 1#1), ∀ a x, ((![v264] : Fin 1 → IVec S16 32) a x).toNat < S320.size a)
theorem k0_idx61_inb : ∀ (k0_t1 : Fin k0_t1_loop.trips) (v264 : IVec S16 32) (k0_hw61 : k0_chk61 k0_t1 v264), ∀ (k0_h1 : k0_cond1 k0_t1 = 1#1), ∀ a x, ((![v264] : Fin 1 → IVec S16 32) a x).toNat < S320.size a := fun k0_t1 v264 k0_hw61 k0_h1 => k0_hw61 k0_h1

def k0_chk62 (k0_t1 : Fin k0_t1_loop.trips) (v267 : IVec S16 32) : Prop :=
  (∀ (k0_h1 : k0_cond1 k0_t1 = 1#1), ∀ a x, ((![v267] : Fin 1 → IVec S16 32) a x).toNat < S32768.size a)
theorem k0_idx62_inb : ∀ (k0_t1 : Fin k0_t1_loop.trips) (v267 : IVec S16 32) (k0_hw62 : k0_chk62 k0_t1 v267), ∀ (k0_h1 : k0_cond1 k0_t1 = 1#1), ∀ a x, ((![v267] : Fin 1 → IVec S16 32) a x).toNat < S32768.size a := fun k0_t1 v267 k0_hw62 k0_h1 => k0_hw62 k0_h1

def k0_chk63 (k0_t1 : Fin k0_t1_loop.trips) (v269 : IVec S16 32) : Prop :=
  (∀ (k0_h1 : k0_cond1 k0_t1 = 1#1), ∀ a x, ((![v269] : Fin 1 → IVec S16 32) a x).toNat < S320.size a)
theorem k0_idx63_inb : ∀ (k0_t1 : Fin k0_t1_loop.trips) (v269 : IVec S16 32) (k0_hw63 : k0_chk63 k0_t1 v269), ∀ (k0_h1 : k0_cond1 k0_t1 = 1#1), ∀ a x, ((![v269] : Fin 1 → IVec S16 32) a x).toNat < S320.size a := fun k0_t1 v269 k0_hw63 k0_h1 => k0_hw63 k0_h1

def k0_chk64 (k0_t1 : Fin k0_t1_loop.trips) (v272 : IVec S16 32) : Prop :=
  (∀ (k0_h1 : k0_cond1 k0_t1 = 1#1), ∀ a x, ((![v272] : Fin 1 → IVec S16 32) a x).toNat < S32768.size a)
theorem k0_idx64_inb : ∀ (k0_t1 : Fin k0_t1_loop.trips) (v272 : IVec S16 32) (k0_hw64 : k0_chk64 k0_t1 v272), ∀ (k0_h1 : k0_cond1 k0_t1 = 1#1), ∀ a x, ((![v272] : Fin 1 → IVec S16 32) a x).toNat < S32768.size a := fun k0_t1 v272 k0_hw64 k0_h1 => k0_hw64 k0_h1

def k0_chk65 (k0_t1 : Fin k0_t1_loop.trips) (v274 : IVec S16 32) : Prop :=
  (∀ (k0_h1 : k0_cond1 k0_t1 = 1#1), ∀ a x, ((![v274] : Fin 1 → IVec S16 32) a x).toNat < S320.size a)
theorem k0_idx65_inb : ∀ (k0_t1 : Fin k0_t1_loop.trips) (v274 : IVec S16 32) (k0_hw65 : k0_chk65 k0_t1 v274), ∀ (k0_h1 : k0_cond1 k0_t1 = 1#1), ∀ a x, ((![v274] : Fin 1 → IVec S16 32) a x).toNat < S320.size a := fun k0_t1 v274 k0_hw65 k0_h1 => k0_hw65 k0_h1

def k0_chk66 (k0_t1 : Fin k0_t1_loop.trips) (v277 : IVec S16 32) : Prop :=
  (∀ (k0_h1 : k0_cond1 k0_t1 = 1#1), ∀ a x, ((![v277] : Fin 1 → IVec S16 32) a x).toNat < S32768.size a)
theorem k0_idx66_inb : ∀ (k0_t1 : Fin k0_t1_loop.trips) (v277 : IVec S16 32) (k0_hw66 : k0_chk66 k0_t1 v277), ∀ (k0_h1 : k0_cond1 k0_t1 = 1#1), ∀ a x, ((![v277] : Fin 1 → IVec S16 32) a x).toNat < S32768.size a := fun k0_t1 v277 k0_hw66 k0_h1 => k0_hw66 k0_h1
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v7 : BitVec 32 := Scalar.muli v1 c25600_i32
  let c0_i32_2 : BitVec 32 := 0#32
  let c1_i32 : BitVec 32 := 1#32
  let arg14 : BitVec 32 := Scf.iv c0_i32_2 c1_i32 k0_t1
  let c1024_i32 : BitVec 32 := 1024#32
  let v53 : BitVec 32 := Scalar.muli arg14 c1024_i32
  let v54 : BitVec 32 := Scalar.addi v7 v53
  let c32_i32_35 : BitVec 32 := 32#32
  let v55 : BitVec 32 := Scalar.muli v54 c32_i32_35
  ![v55.toNat]
def k0_cond4 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c2_i32_16 : BitVec 32 := 2#32
  let c0_i32_17 : BitVec 32 := 0#32
  let v30 : BitVec 1 := Scalar.cmpi .eq c2_i32_16 c0_i32_17
  let c1_i32_18 : BitVec 32 := 1#32
  let v31 : BitVec 32 := Scalar.select v30 c1_i32_18 c2_i32_16
  let v32 : BitVec 32 := Scalar.remsi arg14 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_22 : BitVec 32 := 1#32
  let v40 : BitVec 1 := Scalar.cmpi .eq v39 c1_i32_22
  let v41 : BitVec 32 := Scalar.extui v40
  let c0_i32_23 : BitVec 32 := 0#32
  let v42 : BitVec 1 := Scalar.cmpi .ne v41 c0_i32_23
  v42

def k0_cond5 (k0_t1 : Fin k0_t1_loop.trips) : BitVec 1 :=
  let c0_i32_2 : BitVec 32 := 0#32
  let c1_i32 : BitVec 32 := 1#32
  let arg14 : BitVec 32 := Scf.iv c0_i32_2 c1_i32 k0_t1
  let c1_i32_26 : BitVec 32 := 1#32
  let v45 : BitVec 32 := Scalar.addi arg14 c1_i32_26
  let c25_i32_27 : BitVec 32 := 25#32
  let v46 : BitVec 1 := Scalar.cmpi .slt v45 c25_i32_27
  let v47 : BitVec 32 := Scalar.extui v46
  let c0_i32_28 : BitVec 32 := 0#32
  let v48 : BitVec 1 := Scalar.cmpi .ne v47 c0_i32_28
  v48

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v7 : BitVec 32 := Scalar.muli v1 c25600_i32
  let c0_i32_2 : BitVec 32 := 0#32
  let c1_i32 : BitVec 32 := 1#32
  let arg14 : BitVec 32 := Scf.iv c0_i32_2 c1_i32 k0_t1
  let c1_i32_36 : BitVec 32 := 1#32
  let v58 : BitVec 32 := Scalar.addi arg14 c1_i32_36
  let c1024_i32_37 : BitVec 32 := 1024#32
  let v59 : BitVec 32 := Scalar.muli v58 c1024_i32_37
  let v60 : BitVec 32 := Scalar.addi v7 v59
  let c27_i32_38 : BitVec 32 := 27#32
  let v61 : BitVec 32 := Scalar.muli v60 c27_i32_38
  ![v61.toNat]
@[reducible] def k0_t3_loop : Scf.Loop 32 :=
  let c0_i32_32 : BitVec 32 := 0#32
  let c64_i32 : BitVec 32 := 64#32
  let v52 : BitVec 32 := Scalar.addi c0_i32_32 c64_i32
  let c1_i32_33 : BitVec 32 := 1#32
  ⟨c0_i32_32, v52, c1_i32_33⟩

def k0_chk67 (k0_t1 : Fin k0_t1_loop.trips) (v61 : IVec S16 32) : Prop :=
  (∀ (k0_h4 : k0_cond4 k0_t1 = 1#1), ∀ a x, ((![v61] : Fin 1 → IVec S16 32) a x).toNat < S27648.size a)
theorem k0_idx67_inb : ∀ (k0_t1 : Fin k0_t1_loop.trips) (v61 : IVec S16 32) (k0_hw67 : k0_chk67 k0_t1 v61), ∀ (k0_h4 : k0_cond4 k0_t1 = 1#1), ∀ a x, ((![v61] : Fin 1 → IVec S16 32) a x).toNat < S27648.size a := fun k0_t1 v61 k0_hw67 k0_h4 => k0_hw67 k0_h4

def k0_chk68 (k0_t1 : Fin k0_t1_loop.trips) (v67 : IVec S16 32) : Prop :=
  (∀ (k0_h4 : k0_cond4 k0_t1 = 1#1), ∀ a x, ((![v67] : Fin 1 → IVec S16 32) a x).toNat < S27648.size a)
theorem k0_idx68_inb : ∀ (k0_t1 : Fin k0_t1_loop.trips) (v67 : IVec S16 32) (k0_hw68 : k0_chk68 k0_t1 v67), ∀ (k0_h4 : k0_cond4 k0_t1 = 1#1), ∀ a x, ((![v67] : Fin 1 → IVec S16 32) a x).toNat < S27648.size a := fun k0_t1 v67 k0_hw68 k0_h4 => k0_hw68 k0_h4

def k0_chk69 (k0_t1 : Fin k0_t1_loop.trips) (v119 : IVec S16 32) : Prop :=
  (∀ (k0_h4 : k0_cond4 k0_t1 = 1#1), ∀ a x, ((![v119] : Fin 1 → IVec S16 32) a x).toNat < S320.size a)
theorem k0_idx69_inb : ∀ (k0_t1 : Fin k0_t1_loop.trips) (v119 : IVec S16 32) (k0_hw69 : k0_chk69 k0_t1 v119), ∀ (k0_h4 : k0_cond4 k0_t1 = 1#1), ∀ a x, ((![v119] : Fin 1 → IVec S16 32) a x).toNat < S320.size a := fun k0_t1 v119 k0_hw69 k0_h4 => k0_hw69 k0_h4

def k0_chk70 (k0_t1 : Fin k0_t1_loop.trips) (v122 : IVec S16 32) : Prop :=
  (∀ (k0_h4 : k0_cond4 k0_t1 = 1#1), ∀ a x, ((![v122] : Fin 1 → IVec S16 32) a x).toNat < S32768.size a)
theorem k0_idx70_inb : ∀ (k0_t1 : Fin k0_t1_loop.trips) (v122 : IVec S16 32) (k0_hw70 : k0_chk70 k0_t1 v122), ∀ (k0_h4 : k0_cond4 k0_t1 = 1#1), ∀ a x, ((![v122] : Fin 1 → IVec S16 32) a x).toNat < S32768.size a := fun k0_t1 v122 k0_hw70 k0_h4 => k0_hw70 k0_h4

def k0_chk71 (k0_t1 : Fin k0_t1_loop.trips) (v124 : IVec S16 32) : Prop :=
  (∀ (k0_h4 : k0_cond4 k0_t1 = 1#1), ∀ a x, ((![v124] : Fin 1 → IVec S16 32) a x).toNat < S320.size a)
theorem k0_idx71_inb : ∀ (k0_t1 : Fin k0_t1_loop.trips) (v124 : IVec S16 32) (k0_hw71 : k0_chk71 k0_t1 v124), ∀ (k0_h4 : k0_cond4 k0_t1 = 1#1), ∀ a x, ((![v124] : Fin 1 → IVec S16 32) a x).toNat < S320.size a := fun k0_t1 v124 k0_hw71 k0_h4 => k0_hw71 k0_h4

def k0_chk72 (k0_t1 : Fin k0_t1_loop.trips) (v127 : IVec S16 32) : Prop :=
  (∀ (k0_h4 : k0_cond4 k0_t1 = 1#1), ∀ a x, ((![v127] : Fin 1 → IVec S16 32) a x).toNat < S32768.size a)
theorem k0_idx72_inb : ∀ (k0_t1 : Fin k0_t1_loop.trips) (v127 : IVec S16 32) (k0_hw72 : k0_chk72 k0_t1 v127), ∀ (k0_h4 : k0_cond4 k0_t1 = 1#1), ∀ a x, ((![v127] : Fin 1 → IVec S16 32) a x).toNat < S32768.size a := fun k0_t1 v127 k0_hw72 k0_h4 => k0_hw72 k0_h4

def k0_chk73 (k0_t1 : Fin k0_t1_loop.trips) (v129 : IVec S16 32) : Prop :=
  (∀ (k0_h4 : k0_cond4 k0_t1 = 1#1), ∀ a x, ((![v129] : Fin 1 → IVec S16 32) a x).toNat < S320.size a)
theorem k0_idx73_inb : ∀ (k0_t1 : Fin k0_t1_loop.trips) (v129 : IVec S16 32) (k0_hw73 : k0_chk73 k0_t1 v129), ∀ (k0_h4 : k0_cond4 k0_t1 = 1#1), ∀ a x, ((![v129] : Fin 1 → IVec S16 32) a x).toNat < S320.size a := fun k0_t1 v129 k0_hw73 k0_h4 => k0_hw73 k0_h4

def k0_chk74 (k0_t1 : Fin k0_t1_loop.trips) (v132 : IVec S16 32) : Prop :=
  (∀ (k0_h4 : k0_cond4 k0_t1 = 1#1), ∀ a x, ((![v132] : Fin 1 → IVec S16 32) a x).toNat < S32768.size a)
theorem k0_idx74_inb : ∀ (k0_t1 : Fin k0_t1_loop.trips) (v132 : IVec S16 32) (k0_hw74 : k0_chk74 k0_t1 v132), ∀ (k0_h4 : k0_cond4 k0_t1 = 1#1), ∀ a x, ((![v132] : Fin 1 → IVec S16 32) a x).toNat < S32768.size a := fun k0_t1 v132 k0_hw74 k0_h4 => k0_hw74 k0_h4

def k0_chk75 (k0_t1 : Fin k0_t1_loop.trips) (v134 : IVec S16 32) : Prop :=
  (∀ (k0_h4 : k0_cond4 k0_t1 = 1#1), ∀ a x, ((![v134] : Fin 1 → IVec S16 32) a x).toNat < S320.size a)
theorem k0_idx75_inb : ∀ (k0_t1 : Fin k0_t1_loop.trips) (v134 : IVec S16 32) (k0_hw75 : k0_chk75 k0_t1 v134), ∀ (k0_h4 : k0_cond4 k0_t1 = 1#1), ∀ a x, ((![v134] : Fin 1 → IVec S16 32) a x).toNat < S320.size a := fun k0_t1 v134 k0_hw75 k0_h4 => k0_hw75 k0_h4

def k0_chk76 (k0_t1 : Fin k0_t1_loop.trips) (v137 : IVec S16 32) : Prop :=
  (∀ (k0_h4 : k0_cond4 k0_t1 = 1#1), ∀ a x, ((![v137] : Fin 1 → IVec S16 32) a x).toNat < S32768.size a)
theorem k0_idx76_inb : ∀ (k0_t1 : Fin k0_t1_loop.trips) (v137 : IVec S16 32) (k0_hw76 : k0_chk76 k0_t1 v137), ∀ (k0_h4 : k0_cond4 k0_t1 = 1#1), ∀ a x, ((![v137] : Fin 1 → IVec S16 32) a x).toNat < S32768.size a := fun k0_t1 v137 k0_hw76 k0_h4 => k0_hw76 k0_h4

def k0_chk77 (k0_t1 : Fin k0_t1_loop.trips) (v139 : IVec S16 32) : Prop :=
  (∀ (k0_h4 : k0_cond4 k0_t1 = 1#1), ∀ a x, ((![v139] : Fin 1 → IVec S16 32) a x).toNat < S320.size a)
theorem k0_idx77_inb : ∀ (k0_t1 : Fin k0_t1_loop.trips) (v139 : IVec S16 32) (k0_hw77 : k0_chk77 k0_t1 v139), ∀ (k0_h4 : k0_cond4 k0_t1 = 1#1), ∀ a x, ((![v139] : Fin 1 → IVec S16 32) a x).toNat < S320.size a := fun k0_t1 v139 k0_hw77 k0_h4 => k0_hw77 k0_h4

def k0_chk78 (k0_t1 : Fin k0_t1_loop.trips) (v142 : IVec S16 32) : Prop :=
  (∀ (k0_h4 : k0_cond4 k0_t1 = 1#1), ∀ a x, ((![v142] : Fin 1 → IVec S16 32) a x).toNat < S32768.size a)
theorem k0_idx78_inb : ∀ (k0_t1 : Fin k0_t1_loop.trips) (v142 : IVec S16 32) (k0_hw78 : k0_chk78 k0_t1 v142), ∀ (k0_h4 : k0_cond4 k0_t1 = 1#1), ∀ a x, ((![v142] : Fin 1 → IVec S16 32) a x).toNat < S32768.size a := fun k0_t1 v142 k0_hw78 k0_h4 => k0_hw78 k0_h4

def k0_chk79 (k0_t1 : Fin k0_t1_loop.trips) (v144 : IVec S16 32) : Prop :=
  (∀ (k0_h4 : k0_cond4 k0_t1 = 1#1), ∀ a x, ((![v144] : Fin 1 → IVec S16 32) a x).toNat < S320.size a)
theorem k0_idx79_inb : ∀ (k0_t1 : Fin k0_t1_loop.trips) (v144 : IVec S16 32) (k0_hw79 : k0_chk79 k0_t1 v144), ∀ (k0_h4 : k0_cond4 k0_t1 = 1#1), ∀ a x, ((![v144] : Fin 1 → IVec S16 32) a x).toNat < S320.size a := fun k0_t1 v144 k0_hw79 k0_h4 => k0_hw79 k0_h4

def k0_chk80 (k0_t1 : Fin k0_t1_loop.trips) (v147 : IVec S16 32) : Prop :=
  (∀ (k0_h4 : k0_cond4 k0_t1 = 1#1), ∀ a x, ((![v147] : Fin 1 → IVec S16 32) a x).toNat < S32768.size a)
theorem k0_idx80_inb : ∀ (k0_t1 : Fin k0_t1_loop.trips) (v147 : IVec S16 32) (k0_hw80 : k0_chk80 k0_t1 v147), ∀ (k0_h4 : k0_cond4 k0_t1 = 1#1), ∀ a x, ((![v147] : Fin 1 → IVec S16 32) a x).toNat < S32768.size a := fun k0_t1 v147 k0_hw80 k0_h4 => k0_hw80 k0_h4

def k0_chk81 (k0_t1 : Fin k0_t1_loop.trips) (v149 : IVec S16 32) : Prop :=
  (∀ (k0_h4 : k0_cond4 k0_t1 = 1#1), ∀ a x, ((![v149] : Fin 1 → IVec S16 32) a x).toNat < S320.size a)
theorem k0_idx81_inb : ∀ (k0_t1 : Fin k0_t1_loop.trips) (v149 : IVec S16 32) (k0_hw81 : k0_chk81 k0_t1 v149), ∀ (k0_h4 : k0_cond4 k0_t1 = 1#1), ∀ a x, ((![v149] : Fin 1 → IVec S16 32) a x).toNat < S320.size a := fun k0_t1 v149 k0_hw81 k0_h4 => k0_hw81 k0_h4

def k0_chk82 (k0_t1 : Fin k0_t1_loop.trips) (v152 : IVec S16 32) : Prop :=
  (∀ (k0_h4 : k0_cond4 k0_t1 = 1#1), ∀ a x, ((![v152] : Fin 1 → IVec S16 32) a x).toNat < S32768.size a)
theorem k0_idx82_inb : ∀ (k0_t1 : Fin k0_t1_loop.trips) (v152 : IVec S16 32) (k0_hw82 : k0_chk82 k0_t1 v152), ∀ (k0_h4 : k0_cond4 k0_t1 = 1#1), ∀ a x, ((![v152] : Fin 1 → IVec S16 32) a x).toNat < S32768.size a := fun k0_t1 v152 k0_hw82 k0_h4 => k0_hw82 k0_h4

def k0_chk83 (k0_t1 : Fin k0_t1_loop.trips) (v154 : IVec S16 32) : Prop :=
  (∀ (k0_h4 : k0_cond4 k0_t1 = 1#1), ∀ a x, ((![v154] : Fin 1 → IVec S16 32) a x).toNat < S320.size a)
theorem k0_idx83_inb : ∀ (k0_t1 : Fin k0_t1_loop.trips) (v154 : IVec S16 32) (k0_hw83 : k0_chk83 k0_t1 v154), ∀ (k0_h4 : k0_cond4 k0_t1 = 1#1), ∀ a x, ((![v154] : Fin 1 → IVec S16 32) a x).toNat < S320.size a := fun k0_t1 v154 k0_hw83 k0_h4 => k0_hw83 k0_h4

def k0_chk84 (k0_t1 : Fin k0_t1_loop.trips) (v157 : IVec S16 32) : Prop :=
  (∀ (k0_h4 : k0_cond4 k0_t1 = 1#1), ∀ a x, ((![v157] : Fin 1 → IVec S16 32) a x).toNat < S32768.size a)
theorem k0_idx84_inb : ∀ (k0_t1 : Fin k0_t1_loop.trips) (v157 : IVec S16 32) (k0_hw84 : k0_chk84 k0_t1 v157), ∀ (k0_h4 : k0_cond4 k0_t1 = 1#1), ∀ a x, ((![v157] : Fin 1 → IVec S16 32) a x).toNat < S32768.size a := fun k0_t1 v157 k0_hw84 k0_h4 => k0_hw84 k0_h4

def k0_chk85 (k0_t1 : Fin k0_t1_loop.trips) (v159 : IVec S16 32) : Prop :=
  (∀ (k0_h4 : k0_cond4 k0_t1 = 1#1), ∀ a x, ((![v159] : Fin 1 → IVec S16 32) a x).toNat < S320.size a)
theorem k0_idx85_inb : ∀ (k0_t1 : Fin k0_t1_loop.trips) (v159 : IVec S16 32) (k0_hw85 : k0_chk85 k0_t1 v159), ∀ (k0_h4 : k0_cond4 k0_t1 = 1#1), ∀ a x, ((![v159] : Fin 1 → IVec S16 32) a x).toNat < S320.size a := fun k0_t1 v159 k0_hw85 k0_h4 => k0_hw85 k0_h4

def k0_chk86 (k0_t1 : Fin k0_t1_loop.trips) (v162 : IVec S16 32) : Prop :=
  (∀ (k0_h4 : k0_cond4 k0_t1 = 1#1), ∀ a x, ((![v162] : Fin 1 → IVec S16 32) a x).toNat < S32768.size a)
theorem k0_idx86_inb : ∀ (k0_t1 : Fin k0_t1_loop.trips) (v162 : IVec S16 32) (k0_hw86 : k0_chk86 k0_t1 v162), ∀ (k0_h4 : k0_cond4 k0_t1 = 1#1), ∀ a x, ((![v162] : Fin 1 → IVec S16 32) a x).toNat < S32768.size a := fun k0_t1 v162 k0_hw86 k0_h4 => k0_hw86 k0_h4

def k0_chk87 (k0_t1 : Fin k0_t1_loop.trips) (v164 : IVec S16 32) : Prop :=
  (∀ (k0_h4 : k0_cond4 k0_t1 = 1#1), ∀ a x, ((![v164] : Fin 1 → IVec S16 32) a x).toNat < S320.size a)
theorem k0_idx87_inb : ∀ (k0_t1 : Fin k0_t1_loop.trips) (v164 : IVec S16 32) (k0_hw87 : k0_chk87 k0_t1 v164), ∀ (k0_h4 : k0_cond4 k0_t1 = 1#1), ∀ a x, ((![v164] : Fin 1 → IVec S16 32) a x).toNat < S320.size a := fun k0_t1 v164 k0_hw87 k0_h4 => k0_hw87 k0_h4

def k0_chk88 (k0_t1 : Fin k0_t1_loop.trips) (v167 : IVec S16 32) : Prop :=
  (∀ (k0_h4 : k0_cond4 k0_t1 = 1#1), ∀ a x, ((![v167] : Fin 1 → IVec S16 32) a x).toNat < S32768.size a)
theorem k0_idx88_inb : ∀ (k0_t1 : Fin k0_t1_loop.trips) (v167 : IVec S16 32) (k0_hw88 : k0_chk88 k0_t1 v167), ∀ (k0_h4 : k0_cond4 k0_t1 = 1#1), ∀ a x, ((![v167] : Fin 1 → IVec S16 32) a x).toNat < S32768.size a := fun k0_t1 v167 k0_hw88 k0_h4 => k0_hw88 k0_h4

def k0_chk89 (k0_t1 : Fin k0_t1_loop.trips) (v169 : IVec S16 32) : Prop :=
  (∀ (k0_h4 : k0_cond4 k0_t1 = 1#1), ∀ a x, ((![v169] : Fin 1 → IVec S16 32) a x).toNat < S320.size a)
theorem k0_idx89_inb : ∀ (k0_t1 : Fin k0_t1_loop.trips) (v169 : IVec S16 32) (k0_hw89 : k0_chk89 k0_t1 v169), ∀ (k0_h4 : k0_cond4 k0_t1 = 1#1), ∀ a x, ((![v169] : Fin 1 → IVec S16 32) a x).toNat < S320.size a := fun k0_t1 v169 k0_hw89 k0_h4 => k0_hw89 k0_h4

def k0_chk90 (k0_t1 : Fin k0_t1_loop.trips) (v172 : IVec S16 32) : Prop :=
  (∀ (k0_h4 : k0_cond4 k0_t1 = 1#1), ∀ a x, ((![v172] : Fin 1 → IVec S16 32) a x).toNat < S32768.size a)
theorem k0_idx90_inb : ∀ (k0_t1 : Fin k0_t1_loop.trips) (v172 : IVec S16 32) (k0_hw90 : k0_chk90 k0_t1 v172), ∀ (k0_h4 : k0_cond4 k0_t1 = 1#1), ∀ a x, ((![v172] : Fin 1 → IVec S16 32) a x).toNat < S32768.size a := fun k0_t1 v172 k0_hw90 k0_h4 => k0_hw90 k0_h4

def k0_chk91 (k0_t1 : Fin k0_t1_loop.trips) (v174 : IVec S16 32) : Prop :=
  (∀ (k0_h4 : k0_cond4 k0_t1 = 1#1), ∀ a x, ((![v174] : Fin 1 → IVec S16 32) a x).toNat < S320.size a)
theorem k0_idx91_inb : ∀ (k0_t1 : Fin k0_t1_loop.trips) (v174 : IVec S16 32) (k0_hw91 : k0_chk91 k0_t1 v174), ∀ (k0_h4 : k0_cond4 k0_t1 = 1#1), ∀ a x, ((![v174] : Fin 1 → IVec S16 32) a x).toNat < S320.size a := fun k0_t1 v174 k0_hw91 k0_h4 => k0_hw91 k0_h4

def k0_chk92 (k0_t1 : Fin k0_t1_loop.trips) (v177 : IVec S16 32) : Prop :=
  (∀ (k0_h4 : k0_cond4 k0_t1 = 1#1), ∀ a x, ((![v177] : Fin 1 → IVec S16 32) a x).toNat < S32768.size a)
theorem k0_idx92_inb : ∀ (k0_t1 : Fin k0_t1_loop.trips) (v177 : IVec S16 32) (k0_hw92 : k0_chk92 k0_t1 v177), ∀ (k0_h4 : k0_cond4 k0_t1 = 1#1), ∀ a x, ((![v177] : Fin 1 → IVec S16 32) a x).toNat < S32768.size a := fun k0_t1 v177 k0_hw92 k0_h4 => k0_hw92 k0_h4

def k0_chk93 (k0_t1 : Fin k0_t1_loop.trips) (v179 : IVec S16 32) : Prop :=
  (∀ (k0_h4 : k0_cond4 k0_t1 = 1#1), ∀ a x, ((![v179] : Fin 1 → IVec S16 32) a x).toNat < S320.size a)
theorem k0_idx93_inb : ∀ (k0_t1 : Fin k0_t1_loop.trips) (v179 : IVec S16 32) (k0_hw93 : k0_chk93 k0_t1 v179), ∀ (k0_h4 : k0_cond4 k0_t1 = 1#1), ∀ a x, ((![v179] : Fin 1 → IVec S16 32) a x).toNat < S320.size a := fun k0_t1 v179 k0_hw93 k0_h4 => k0_hw93 k0_h4

def k0_chk94 (k0_t1 : Fin k0_t1_loop.trips) (v182 : IVec S16 32) : Prop :=
  (∀ (k0_h4 : k0_cond4 k0_t1 = 1#1), ∀ a x, ((![v182] : Fin 1 → IVec S16 32) a x).toNat < S32768.size a)
theorem k0_idx94_inb : ∀ (k0_t1 : Fin k0_t1_loop.trips) (v182 : IVec S16 32) (k0_hw94 : k0_chk94 k0_t1 v182), ∀ (k0_h4 : k0_cond4 k0_t1 = 1#1), ∀ a x, ((![v182] : Fin 1 → IVec S16 32) a x).toNat < S32768.size a := fun k0_t1 v182 k0_hw94 k0_h4 => k0_hw94 k0_h4

def k0_chk95 (k0_t1 : Fin k0_t1_loop.trips) (v184 : IVec S16 32) : Prop :=
  (∀ (k0_h4 : k0_cond4 k0_t1 = 1#1), ∀ a x, ((![v184] : Fin 1 → IVec S16 32) a x).toNat < S320.size a)
theorem k0_idx95_inb : ∀ (k0_t1 : Fin k0_t1_loop.trips) (v184 : IVec S16 32) (k0_hw95 : k0_chk95 k0_t1 v184), ∀ (k0_h4 : k0_cond4 k0_t1 = 1#1), ∀ a x, ((![v184] : Fin 1 → IVec S16 32) a x).toNat < S320.size a := fun k0_t1 v184 k0_hw95 k0_h4 => k0_hw95 k0_h4

def k0_chk96 (k0_t1 : Fin k0_t1_loop.trips) (v187 : IVec S16 32) : Prop :=
  (∀ (k0_h4 : k0_cond4 k0_t1 = 1#1), ∀ a x, ((![v187] : Fin 1 → IVec S16 32) a x).toNat < S32768.size a)
theorem k0_idx96_inb : ∀ (k0_t1 : Fin k0_t1_loop.trips) (v187 : IVec S16 32) (k0_hw96 : k0_chk96 k0_t1 v187), ∀ (k0_h4 : k0_cond4 k0_t1 = 1#1), ∀ a x, ((![v187] : Fin 1 → IVec S16 32) a x).toNat < S32768.size a := fun k0_t1 v187 k0_hw96 k0_h4 => k0_hw96 k0_h4

def k0_chk97 (k0_t1 : Fin k0_t1_loop.trips) (v189 : IVec S16 32) : Prop :=
  (∀ (k0_h4 : k0_cond4 k0_t1 = 1#1), ∀ a x, ((![v189] : Fin 1 → IVec S16 32) a x).toNat < S320.size a)
theorem k0_idx97_inb : ∀ (k0_t1 : Fin k0_t1_loop.trips) (v189 : IVec S16 32) (k0_hw97 : k0_chk97 k0_t1 v189), ∀ (k0_h4 : k0_cond4 k0_t1 = 1#1), ∀ a x, ((![v189] : Fin 1 → IVec S16 32) a x).toNat < S320.size a := fun k0_t1 v189 k0_hw97 k0_h4 => k0_hw97 k0_h4

def k0_chk98 (k0_t1 : Fin k0_t1_loop.trips) (v192 : IVec S16 32) : Prop :=
  (∀ (k0_h4 : k0_cond4 k0_t1 = 1#1), ∀ a x, ((![v192] : Fin 1 → IVec S16 32) a x).toNat < S32768.size a)
theorem k0_idx98_inb : ∀ (k0_t1 : Fin k0_t1_loop.trips) (v192 : IVec S16 32) (k0_hw98 : k0_chk98 k0_t1 v192), ∀ (k0_h4 : k0_cond4 k0_t1 = 1#1), ∀ a x, ((![v192] : Fin 1 → IVec S16 32) a x).toNat < S32768.size a := fun k0_t1 v192 k0_hw98 k0_h4 => k0_hw98 k0_h4

def k0_chk99 (k0_t1 : Fin k0_t1_loop.trips) (v194 : IVec S16 32) : Prop :=
  (∀ (k0_h4 : k0_cond4 k0_t1 = 1#1), ∀ a x, ((![v194] : Fin 1 → IVec S16 32) a x).toNat < S320.size a)
theorem k0_idx99_inb : ∀ (k0_t1 : Fin k0_t1_loop.trips) (v194 : IVec S16 32) (k0_hw99 : k0_chk99 k0_t1 v194), ∀ (k0_h4 : k0_cond4 k0_t1 = 1#1), ∀ a x, ((![v194] : Fin 1 → IVec S16 32) a x).toNat < S320.size a := fun k0_t1 v194 k0_hw99 k0_h4 => k0_hw99 k0_h4

def k0_chk100 (k0_t1 : Fin k0_t1_loop.trips) (v197 : IVec S16 32) : Prop :=
  (∀ (k0_h4 : k0_cond4 k0_t1 = 1#1), ∀ a x, ((![v197] : Fin 1 → IVec S16 32) a x).toNat < S32768.size a)
theorem k0_idx100_inb : ∀ (k0_t1 : Fin k0_t1_loop.trips) (v197 : IVec S16 32) (k0_hw100 : k0_chk100 k0_t1 v197), ∀ (k0_h4 : k0_cond4 k0_t1 = 1#1), ∀ a x, ((![v197] : Fin 1 → IVec S16 32) a x).toNat < S32768.size a := fun k0_t1 v197 k0_hw100 k0_h4 => k0_hw100 k0_h4

def k0_chk101 (k0_t1 : Fin k0_t1_loop.trips) (v199 : IVec S16 32) : Prop :=
  (∀ (k0_h4 : k0_cond4 k0_t1 = 1#1), ∀ a x, ((![v199] : Fin 1 → IVec S16 32) a x).toNat < S320.size a)
theorem k0_idx101_inb : ∀ (k0_t1 : Fin k0_t1_loop.trips) (v199 : IVec S16 32) (k0_hw101 : k0_chk101 k0_t1 v199), ∀ (k0_h4 : k0_cond4 k0_t1 = 1#1), ∀ a x, ((![v199] : Fin 1 → IVec S16 32) a x).toNat < S320.size a := fun k0_t1 v199 k0_hw101 k0_h4 => k0_hw101 k0_h4

def k0_chk102 (k0_t1 : Fin k0_t1_loop.trips) (v202 : IVec S16 32) : Prop :=
  (∀ (k0_h4 : k0_cond4 k0_t1 = 1#1), ∀ a x, ((![v202] : Fin 1 → IVec S16 32) a x).toNat < S32768.size a)
theorem k0_idx102_inb : ∀ (k0_t1 : Fin k0_t1_loop.trips) (v202 : IVec S16 32) (k0_hw102 : k0_chk102 k0_t1 v202), ∀ (k0_h4 : k0_cond4 k0_t1 = 1#1), ∀ a x, ((![v202] : Fin 1 → IVec S16 32) a x).toNat < S32768.size a := fun k0_t1 v202 k0_hw102 k0_h4 => k0_hw102 k0_h4

def k0_chk103 (k0_t1 : Fin k0_t1_loop.trips) (v204 : IVec S16 32) : Prop :=
  (∀ (k0_h4 : k0_cond4 k0_t1 = 1#1), ∀ a x, ((![v204] : Fin 1 → IVec S16 32) a x).toNat < S320.size a)
theorem k0_idx103_inb : ∀ (k0_t1 : Fin k0_t1_loop.trips) (v204 : IVec S16 32) (k0_hw103 : k0_chk103 k0_t1 v204), ∀ (k0_h4 : k0_cond4 k0_t1 = 1#1), ∀ a x, ((![v204] : Fin 1 → IVec S16 32) a x).toNat < S320.size a := fun k0_t1 v204 k0_hw103 k0_h4 => k0_hw103 k0_h4

def k0_chk104 (k0_t1 : Fin k0_t1_loop.trips) (v207 : IVec S16 32) : Prop :=
  (∀ (k0_h4 : k0_cond4 k0_t1 = 1#1), ∀ a x, ((![v207] : Fin 1 → IVec S16 32) a x).toNat < S32768.size a)
theorem k0_idx104_inb : ∀ (k0_t1 : Fin k0_t1_loop.trips) (v207 : IVec S16 32) (k0_hw104 : k0_chk104 k0_t1 v207), ∀ (k0_h4 : k0_cond4 k0_t1 = 1#1), ∀ a x, ((![v207] : Fin 1 → IVec S16 32) a x).toNat < S32768.size a := fun k0_t1 v207 k0_hw104 k0_h4 => k0_hw104 k0_h4

def k0_chk105 (k0_t1 : Fin k0_t1_loop.trips) (v209 : IVec S16 32) : Prop :=
  (∀ (k0_h4 : k0_cond4 k0_t1 = 1#1), ∀ a x, ((![v209] : Fin 1 → IVec S16 32) a x).toNat < S320.size a)
theorem k0_idx105_inb : ∀ (k0_t1 : Fin k0_t1_loop.trips) (v209 : IVec S16 32) (k0_hw105 : k0_chk105 k0_t1 v209), ∀ (k0_h4 : k0_cond4 k0_t1 = 1#1), ∀ a x, ((![v209] : Fin 1 → IVec S16 32) a x).toNat < S320.size a := fun k0_t1 v209 k0_hw105 k0_h4 => k0_hw105 k0_h4

def k0_chk106 (k0_t1 : Fin k0_t1_loop.trips) (v212 : IVec S16 32) : Prop :=
  (∀ (k0_h4 : k0_cond4 k0_t1 = 1#1), ∀ a x, ((![v212] : Fin 1 → IVec S16 32) a x).toNat < S32768.size a)
theorem k0_idx106_inb : ∀ (k0_t1 : Fin k0_t1_loop.trips) (v212 : IVec S16 32) (k0_hw106 : k0_chk106 k0_t1 v212), ∀ (k0_h4 : k0_cond4 k0_t1 = 1#1), ∀ a x, ((![v212] : Fin 1 → IVec S16 32) a x).toNat < S32768.size a := fun k0_t1 v212 k0_hw106 k0_h4 => k0_hw106 k0_h4

def k0_chk107 (k0_t1 : Fin k0_t1_loop.trips) (v214 : IVec S16 32) : Prop :=
  (∀ (k0_h4 : k0_cond4 k0_t1 = 1#1), ∀ a x, ((![v214] : Fin 1 → IVec S16 32) a x).toNat < S320.size a)
theorem k0_idx107_inb : ∀ (k0_t1 : Fin k0_t1_loop.trips) (v214 : IVec S16 32) (k0_hw107 : k0_chk107 k0_t1 v214), ∀ (k0_h4 : k0_cond4 k0_t1 = 1#1), ∀ a x, ((![v214] : Fin 1 → IVec S16 32) a x).toNat < S320.size a := fun k0_t1 v214 k0_hw107 k0_h4 => k0_hw107 k0_h4

def k0_chk108 (k0_t1 : Fin k0_t1_loop.trips) (v217 : IVec S16 32) : Prop :=
  (∀ (k0_h4 : k0_cond4 k0_t1 = 1#1), ∀ a x, ((![v217] : Fin 1 → IVec S16 32) a x).toNat < S32768.size a)
theorem k0_idx108_inb : ∀ (k0_t1 : Fin k0_t1_loop.trips) (v217 : IVec S16 32) (k0_hw108 : k0_chk108 k0_t1 v217), ∀ (k0_h4 : k0_cond4 k0_t1 = 1#1), ∀ a x, ((![v217] : Fin 1 → IVec S16 32) a x).toNat < S32768.size a := fun k0_t1 v217 k0_hw108 k0_h4 => k0_hw108 k0_h4

def k0_chk109 (k0_t1 : Fin k0_t1_loop.trips) (v219 : IVec S16 32) : Prop :=
  (∀ (k0_h4 : k0_cond4 k0_t1 = 1#1), ∀ a x, ((![v219] : Fin 1 → IVec S16 32) a x).toNat < S320.size a)
theorem k0_idx109_inb : ∀ (k0_t1 : Fin k0_t1_loop.trips) (v219 : IVec S16 32) (k0_hw109 : k0_chk109 k0_t1 v219), ∀ (k0_h4 : k0_cond4 k0_t1 = 1#1), ∀ a x, ((![v219] : Fin 1 → IVec S16 32) a x).toNat < S320.size a := fun k0_t1 v219 k0_hw109 k0_h4 => k0_hw109 k0_h4

def k0_chk110 (k0_t1 : Fin k0_t1_loop.trips) (v222 : IVec S16 32) : Prop :=
  (∀ (k0_h4 : k0_cond4 k0_t1 = 1#1), ∀ a x, ((![v222] : Fin 1 → IVec S16 32) a x).toNat < S32768.size a)
theorem k0_idx110_inb : ∀ (k0_t1 : Fin k0_t1_loop.trips) (v222 : IVec S16 32) (k0_hw110 : k0_chk110 k0_t1 v222), ∀ (k0_h4 : k0_cond4 k0_t1 = 1#1), ∀ a x, ((![v222] : Fin 1 → IVec S16 32) a x).toNat < S32768.size a := fun k0_t1 v222 k0_hw110 k0_h4 => k0_hw110 k0_h4

def k0_chk111 (k0_t1 : Fin k0_t1_loop.trips) (v224 : IVec S16 32) : Prop :=
  (∀ (k0_h4 : k0_cond4 k0_t1 = 1#1), ∀ a x, ((![v224] : Fin 1 → IVec S16 32) a x).toNat < S320.size a)
theorem k0_idx111_inb : ∀ (k0_t1 : Fin k0_t1_loop.trips) (v224 : IVec S16 32) (k0_hw111 : k0_chk111 k0_t1 v224), ∀ (k0_h4 : k0_cond4 k0_t1 = 1#1), ∀ a x, ((![v224] : Fin 1 → IVec S16 32) a x).toNat < S320.size a := fun k0_t1 v224 k0_hw111 k0_h4 => k0_hw111 k0_h4

def k0_chk112 (k0_t1 : Fin k0_t1_loop.trips) (v227 : IVec S16 32) : Prop :=
  (∀ (k0_h4 : k0_cond4 k0_t1 = 1#1), ∀ a x, ((![v227] : Fin 1 → IVec S16 32) a x).toNat < S32768.size a)
theorem k0_idx112_inb : ∀ (k0_t1 : Fin k0_t1_loop.trips) (v227 : IVec S16 32) (k0_hw112 : k0_chk112 k0_t1 v227), ∀ (k0_h4 : k0_cond4 k0_t1 = 1#1), ∀ a x, ((![v227] : Fin 1 → IVec S16 32) a x).toNat < S32768.size a := fun k0_t1 v227 k0_hw112 k0_h4 => k0_hw112 k0_h4

def k0_chk113 (k0_t1 : Fin k0_t1_loop.trips) (v229 : IVec S16 32) : Prop :=
  (∀ (k0_h4 : k0_cond4 k0_t1 = 1#1), ∀ a x, ((![v229] : Fin 1 → IVec S16 32) a x).toNat < S320.size a)
theorem k0_idx113_inb : ∀ (k0_t1 : Fin k0_t1_loop.trips) (v229 : IVec S16 32) (k0_hw113 : k0_chk113 k0_t1 v229), ∀ (k0_h4 : k0_cond4 k0_t1 = 1#1), ∀ a x, ((![v229] : Fin 1 → IVec S16 32) a x).toNat < S320.size a := fun k0_t1 v229 k0_hw113 k0_h4 => k0_hw113 k0_h4

def k0_chk114 (k0_t1 : Fin k0_t1_loop.trips) (v232 : IVec S16 32) : Prop :=
  (∀ (k0_h4 : k0_cond4 k0_t1 = 1#1), ∀ a x, ((![v232] : Fin 1 → IVec S16 32) a x).toNat < S32768.size a)
theorem k0_idx114_inb : ∀ (k0_t1 : Fin k0_t1_loop.trips) (v232 : IVec S16 32) (k0_hw114 : k0_chk114 k0_t1 v232), ∀ (k0_h4 : k0_cond4 k0_t1 = 1#1), ∀ a x, ((![v232] : Fin 1 → IVec S16 32) a x).toNat < S32768.size a := fun k0_t1 v232 k0_hw114 k0_h4 => k0_hw114 k0_h4

def k0_chk115 (k0_t1 : Fin k0_t1_loop.trips) (v234 : IVec S16 32) : Prop :=
  (∀ (k0_h4 : k0_cond4 k0_t1 = 1#1), ∀ a x, ((![v234] : Fin 1 → IVec S16 32) a x).toNat < S320.size a)
theorem k0_idx115_inb : ∀ (k0_t1 : Fin k0_t1_loop.trips) (v234 : IVec S16 32) (k0_hw115 : k0_chk115 k0_t1 v234), ∀ (k0_h4 : k0_cond4 k0_t1 = 1#1), ∀ a x, ((![v234] : Fin 1 → IVec S16 32) a x).toNat < S320.size a := fun k0_t1 v234 k0_hw115 k0_h4 => k0_hw115 k0_h4

def k0_chk116 (k0_t1 : Fin k0_t1_loop.trips) (v237 : IVec S16 32) : Prop :=
  (∀ (k0_h4 : k0_cond4 k0_t1 = 1#1), ∀ a x, ((![v237] : Fin 1 → IVec S16 32) a x).toNat < S32768.size a)
theorem k0_idx116_inb : ∀ (k0_t1 : Fin k0_t1_loop.trips) (v237 : IVec S16 32) (k0_hw116 : k0_chk116 k0_t1 v237), ∀ (k0_h4 : k0_cond4 k0_t1 = 1#1), ∀ a x, ((![v237] : Fin 1 → IVec S16 32) a x).toNat < S32768.size a := fun k0_t1 v237 k0_hw116 k0_h4 => k0_hw116 k0_h4

def k0_chk117 (k0_t1 : Fin k0_t1_loop.trips) (v239 : IVec S16 32) : Prop :=
  (∀ (k0_h4 : k0_cond4 k0_t1 = 1#1), ∀ a x, ((![v239] : Fin 1 → IVec S16 32) a x).toNat < S320.size a)
theorem k0_idx117_inb : ∀ (k0_t1 : Fin k0_t1_loop.trips) (v239 : IVec S16 32) (k0_hw117 : k0_chk117 k0_t1 v239), ∀ (k0_h4 : k0_cond4 k0_t1 = 1#1), ∀ a x, ((![v239] : Fin 1 → IVec S16 32) a x).toNat < S320.size a := fun k0_t1 v239 k0_hw117 k0_h4 => k0_hw117 k0_h4

def k0_chk118 (k0_t1 : Fin k0_t1_loop.trips) (v242 : IVec S16 32) : Prop :=
  (∀ (k0_h4 : k0_cond4 k0_t1 = 1#1), ∀ a x, ((![v242] : Fin 1 → IVec S16 32) a x).toNat < S32768.size a)
theorem k0_idx118_inb : ∀ (k0_t1 : Fin k0_t1_loop.trips) (v242 : IVec S16 32) (k0_hw118 : k0_chk118 k0_t1 v242), ∀ (k0_h4 : k0_cond4 k0_t1 = 1#1), ∀ a x, ((![v242] : Fin 1 → IVec S16 32) a x).toNat < S32768.size a := fun k0_t1 v242 k0_hw118 k0_h4 => k0_hw118 k0_h4

def k0_chk119 (k0_t1 : Fin k0_t1_loop.trips) (v244 : IVec S16 32) : Prop :=
  (∀ (k0_h4 : k0_cond4 k0_t1 = 1#1), ∀ a x, ((![v244] : Fin 1 → IVec S16 32) a x).toNat < S320.size a)
theorem k0_idx119_inb : ∀ (k0_t1 : Fin k0_t1_loop.trips) (v244 : IVec S16 32) (k0_hw119 : k0_chk119 k0_t1 v244), ∀ (k0_h4 : k0_cond4 k0_t1 = 1#1), ∀ a x, ((![v244] : Fin 1 → IVec S16 32) a x).toNat < S320.size a := fun k0_t1 v244 k0_hw119 k0_h4 => k0_hw119 k0_h4

def k0_chk120 (k0_t1 : Fin k0_t1_loop.trips) (v247 : IVec S16 32) : Prop :=
  (∀ (k0_h4 : k0_cond4 k0_t1 = 1#1), ∀ a x, ((![v247] : Fin 1 → IVec S16 32) a x).toNat < S32768.size a)
theorem k0_idx120_inb : ∀ (k0_t1 : Fin k0_t1_loop.trips) (v247 : IVec S16 32) (k0_hw120 : k0_chk120 k0_t1 v247), ∀ (k0_h4 : k0_cond4 k0_t1 = 1#1), ∀ a x, ((![v247] : Fin 1 → IVec S16 32) a x).toNat < S32768.size a := fun k0_t1 v247 k0_hw120 k0_h4 => k0_hw120 k0_h4

def k0_chk121 (k0_t1 : Fin k0_t1_loop.trips) (v249 : IVec S16 32) : Prop :=
  (∀ (k0_h4 : k0_cond4 k0_t1 = 1#1), ∀ a x, ((![v249] : Fin 1 → IVec S16 32) a x).toNat < S320.size a)
theorem k0_idx121_inb : ∀ (k0_t1 : Fin k0_t1_loop.trips) (v249 : IVec S16 32) (k0_hw121 : k0_chk121 k0_t1 v249), ∀ (k0_h4 : k0_cond4 k0_t1 = 1#1), ∀ a x, ((![v249] : Fin 1 → IVec S16 32) a x).toNat < S320.size a := fun k0_t1 v249 k0_hw121 k0_h4 => k0_hw121 k0_h4

def k0_chk122 (k0_t1 : Fin k0_t1_loop.trips) (v252 : IVec S16 32) : Prop :=
  (∀ (k0_h4 : k0_cond4 k0_t1 = 1#1), ∀ a x, ((![v252] : Fin 1 → IVec S16 32) a x).toNat < S32768.size a)
theorem k0_idx122_inb : ∀ (k0_t1 : Fin k0_t1_loop.trips) (v252 : IVec S16 32) (k0_hw122 : k0_chk122 k0_t1 v252), ∀ (k0_h4 : k0_cond4 k0_t1 = 1#1), ∀ a x, ((![v252] : Fin 1 → IVec S16 32) a x).toNat < S32768.size a := fun k0_t1 v252 k0_hw122 k0_h4 => k0_hw122 k0_h4

def k0_chk123 (k0_t1 : Fin k0_t1_loop.trips) (v254 : IVec S16 32) : Prop :=
  (∀ (k0_h4 : k0_cond4 k0_t1 = 1#1), ∀ a x, ((![v254] : Fin 1 → IVec S16 32) a x).toNat < S320.size a)
theorem k0_idx123_inb : ∀ (k0_t1 : Fin k0_t1_loop.trips) (v254 : IVec S16 32) (k0_hw123 : k0_chk123 k0_t1 v254), ∀ (k0_h4 : k0_cond4 k0_t1 = 1#1), ∀ a x, ((![v254] : Fin 1 → IVec S16 32) a x).toNat < S320.size a := fun k0_t1 v254 k0_hw123 k0_h4 => k0_hw123 k0_h4

def k0_chk124 (k0_t1 : Fin k0_t1_loop.trips) (v257 : IVec S16 32) : Prop :=
  (∀ (k0_h4 : k0_cond4 k0_t1 = 1#1), ∀ a x, ((![v257] : Fin 1 → IVec S16 32) a x).toNat < S32768.size a)
theorem k0_idx124_inb : ∀ (k0_t1 : Fin k0_t1_loop.trips) (v257 : IVec S16 32) (k0_hw124 : k0_chk124 k0_t1 v257), ∀ (k0_h4 : k0_cond4 k0_t1 = 1#1), ∀ a x, ((![v257] : Fin 1 → IVec S16 32) a x).toNat < S32768.size a := fun k0_t1 v257 k0_hw124 k0_h4 => k0_hw124 k0_h4

def k0_chk125 (k0_t1 : Fin k0_t1_loop.trips) (v259 : IVec S16 32) : Prop :=
  (∀ (k0_h4 : k0_cond4 k0_t1 = 1#1), ∀ a x, ((![v259] : Fin 1 → IVec S16 32) a x).toNat < S320.size a)
theorem k0_idx125_inb : ∀ (k0_t1 : Fin k0_t1_loop.trips) (v259 : IVec S16 32) (k0_hw125 : k0_chk125 k0_t1 v259), ∀ (k0_h4 : k0_cond4 k0_t1 = 1#1), ∀ a x, ((![v259] : Fin 1 → IVec S16 32) a x).toNat < S320.size a := fun k0_t1 v259 k0_hw125 k0_h4 => k0_hw125 k0_h4

def k0_chk126 (k0_t1 : Fin k0_t1_loop.trips) (v262 : IVec S16 32) : Prop :=
  (∀ (k0_h4 : k0_cond4 k0_t1 = 1#1), ∀ a x, ((![v262] : Fin 1 → IVec S16 32) a x).toNat < S32768.size a)
theorem k0_idx126_inb : ∀ (k0_t1 : Fin k0_t1_loop.trips) (v262 : IVec S16 32) (k0_hw126 : k0_chk126 k0_t1 v262), ∀ (k0_h4 : k0_cond4 k0_t1 = 1#1), ∀ a x, ((![v262] : Fin 1 → IVec S16 32) a x).toNat < S32768.size a := fun k0_t1 v262 k0_hw126 k0_h4 => k0_hw126 k0_h4

def k0_chk127 (k0_t1 : Fin k0_t1_loop.trips) (v264 : IVec S16 32) : Prop :=
  (∀ (k0_h4 : k0_cond4 k0_t1 = 1#1), ∀ a x, ((![v264] : Fin 1 → IVec S16 32) a x).toNat < S320.size a)
theorem k0_idx127_inb : ∀ (k0_t1 : Fin k0_t1_loop.trips) (v264 : IVec S16 32) (k0_hw127 : k0_chk127 k0_t1 v264), ∀ (k0_h4 : k0_cond4 k0_t1 = 1#1), ∀ a x, ((![v264] : Fin 1 → IVec S16 32) a x).toNat < S320.size a := fun k0_t1 v264 k0_hw127 k0_h4 => k0_hw127 k0_h4

def k0_chk128 (k0_t1 : Fin k0_t1_loop.trips) (v267 : IVec S16 32) : Prop :=
  (∀ (k0_h4 : k0_cond4 k0_t1 = 1#1), ∀ a x, ((![v267] : Fin 1 → IVec S16 32) a x).toNat < S32768.size a)
theorem k0_idx128_inb : ∀ (k0_t1 : Fin k0_t1_loop.trips) (v267 : IVec S16 32) (k0_hw128 : k0_chk128 k0_t1 v267), ∀ (k0_h4 : k0_cond4 k0_t1 = 1#1), ∀ a x, ((![v267] : Fin 1 → IVec S16 32) a x).toNat < S32768.size a := fun k0_t1 v267 k0_hw128 k0_h4 => k0_hw128 k0_h4

def k0_chk129 (k0_t1 : Fin k0_t1_loop.trips) (v269 : IVec S16 32) : Prop :=
  (∀ (k0_h4 : k0_cond4 k0_t1 = 1#1), ∀ a x, ((![v269] : Fin 1 → IVec S16 32) a x).toNat < S320.size a)
theorem k0_idx129_inb : ∀ (k0_t1 : Fin k0_t1_loop.trips) (v269 : IVec S16 32) (k0_hw129 : k0_chk129 k0_t1 v269), ∀ (k0_h4 : k0_cond4 k0_t1 = 1#1), ∀ a x, ((![v269] : Fin 1 → IVec S16 32) a x).toNat < S320.size a := fun k0_t1 v269 k0_hw129 k0_h4 => k0_hw129 k0_h4

def k0_chk130 (k0_t1 : Fin k0_t1_loop.trips) (v272 : IVec S16 32) : Prop :=
  (∀ (k0_h4 : k0_cond4 k0_t1 = 1#1), ∀ a x, ((![v272] : Fin 1 → IVec S16 32) a x).toNat < S32768.size a)
theorem k0_idx130_inb : ∀ (k0_t1 : Fin k0_t1_loop.trips) (v272 : IVec S16 32) (k0_hw130 : k0_chk130 k0_t1 v272), ∀ (k0_h4 : k0_cond4 k0_t1 = 1#1), ∀ a x, ((![v272] : Fin 1 → IVec S16 32) a x).toNat < S32768.size a := fun k0_t1 v272 k0_hw130 k0_h4 => k0_hw130 k0_h4

def k0_chk131 (k0_t1 : Fin k0_t1_loop.trips) (v274 : IVec S16 32) : Prop :=
  (∀ (k0_h4 : k0_cond4 k0_t1 = 1#1), ∀ a x, ((![v274] : Fin 1 → IVec S16 32) a x).toNat < S320.size a)
theorem k0_idx131_inb : ∀ (k0_t1 : Fin k0_t1_loop.trips) (v274 : IVec S16 32) (k0_hw131 : k0_chk131 k0_t1 v274), ∀ (k0_h4 : k0_cond4 k0_t1 = 1#1), ∀ a x, ((![v274] : Fin 1 → IVec S16 32) a x).toNat < S320.size a := fun k0_t1 v274 k0_hw131 k0_h4 => k0_hw131 k0_h4

def k0_chk132 (k0_t1 : Fin k0_t1_loop.trips) (v277 : IVec S16 32) : Prop :=
  (∀ (k0_h4 : k0_cond4 k0_t1 = 1#1), ∀ a x, ((![v277] : Fin 1 → IVec S16 32) a x).toNat < S32768.size a)
theorem k0_idx132_inb : ∀ (k0_t1 : Fin k0_t1_loop.trips) (v277 : IVec S16 32) (k0_hw132 : k0_chk132 k0_t1 v277), ∀ (k0_h4 : k0_cond4 k0_t1 = 1#1), ∀ a x, ((![v277] : Fin 1 → IVec S16 32) a x).toNat < S32768.size a := fun k0_t1 v277 k0_hw132 k0_h4 => k0_hw132 k0_h4
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v7 : BitVec 32 := Scalar.muli v1 c25600_i32
  let c0_i32_2 : BitVec 32 := 0#32
  let c1_i32 : BitVec 32 := 1#32
  let arg14 : BitVec 32 := Scf.iv c0_i32_2 c1_i32 k0_t1
  let c1024_i32 : BitVec 32 := 1024#32
  let v53 : BitVec 32 := Scalar.muli arg14 c1024_i32
  let v54 : BitVec 32 := Scalar.addi v7 v53
  let c32_i32_35 : BitVec 32 := 32#32
  let v55 : BitVec 32 := Scalar.muli v54 c32_i32_35
  ![v55.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x27 : Shape := ⟨3, ![4096, 200, 27]⟩
abbrev S32x10 : Shape := ⟨2, ![32, 10]⟩
abbrev S4096x200x1 : Shape := ⟨3, ![4096, 200, 1]⟩
abbrev S4096x200 : Shape := ⟨2, ![4096, 200]⟩
abbrev S_ : Shape := ⟨0, ![]⟩
abbrev S8 : Shape := ⟨1, ![8]⟩
abbrev S1 : Shape := ⟨1, ![1]⟩
abbrev S9 : Shape := ⟨1, ![9]⟩
abbrev S1x1x9 : Shape := ⟨3, ![1, 1, 9]⟩
abbrev S4096x200x9 : Shape := ⟨3, ![4096, 200, 9]⟩
abbrev S1x1x10 : Shape := ⟨3, ![1, 1, 10]⟩
abbrev S4096x200x10 : Shape := ⟨3, ![4096, 200, 10]⟩
abbrev S10x32 : Shape := ⟨2, ![10, 32]⟩
abbrev S4096x200x32 : Shape := ⟨3, ![4096, 200, 32]⟩

abbrev nBuf : Space → Nat
  | .hbm => 62
  | .vmem => 0
  | .smem => 0
  | _ => 0

abbrev bufTy : (tb : Table) → Fin (tcTables nBuf tb) → BufTy
  | .hbm, ⟨0, _⟩ => ⟨S4096x200x27, .f32⟩
  | .hbm, ⟨1, _⟩ => ⟨S32x10, .f32⟩
  | .hbm, ⟨2, _⟩ => ⟨S4096x200x1, .f32⟩
  | .hbm, ⟨3, _⟩ => ⟨S4096x200, .f32⟩
  | .hbm, ⟨4, _⟩ => ⟨S4096x200x1, .f32⟩
  | .hbm, ⟨5, _⟩ => ⟨S4096x200, .f32⟩
  | .hbm, ⟨6, _⟩ => ⟨S4096x200, .f32⟩
  | .hbm, ⟨7, _⟩ => ⟨S4096x200, .i1⟩
  | .hbm, ⟨8, _⟩ => ⟨S_, .f32⟩
  | .hbm, ⟨9, _⟩ => ⟨S4096x200, .f32⟩
  | .hbm, ⟨10, _⟩ => ⟨S4096x200, .f32⟩
  | .hbm, ⟨11, _⟩ => ⟨S_, .f32⟩
  | .hbm, ⟨12, _⟩ => ⟨S4096x200, .f32⟩
  | .hbm, ⟨13, _⟩ => ⟨S4096x200, .i1⟩
  | .hbm, ⟨14, _⟩ => ⟨S_, .f32⟩
  | .hbm, ⟨15, _⟩ => ⟨S4096x200, .f32⟩
  | .hbm, ⟨16, _⟩ => ⟨S4096x200, .f32⟩
  | .hbm, ⟨17, _⟩ => ⟨S_, .f32⟩
  | .hbm, ⟨18, _⟩ => ⟨S4096x200, .f32⟩
  | .hbm, ⟨19, _⟩ => ⟨S4096x200, .i1⟩
  | .hbm, ⟨20, _⟩ => ⟨S_, .f32⟩
  | .hbm, ⟨21, _⟩ => ⟨S4096x200, .f32⟩
  | .hbm, ⟨22, _⟩ => ⟨S4096x200, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S1, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S1, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S1, .f32⟩
  | .hbm, ⟨45, _⟩ => ⟨S9, .f32⟩
  | .hbm, ⟨46, _⟩ => ⟨S4096x200x1, .f32⟩
  | .hbm, ⟨47, _⟩ => ⟨S1x1x9, .f32⟩
  | .hbm, ⟨48, _⟩ => ⟨S4096x200x9, .f32⟩
  | .hbm, ⟨49, _⟩ => ⟨S4096x200x9, .f32⟩
  | .hbm, ⟨50, _⟩ => ⟨S4096x200x9, .i1⟩
  | .hbm, ⟨51, _⟩ => ⟨S4096x200x9, .i32⟩
  | .hbm, ⟨52, _⟩ => ⟨S_, .i32⟩
  | .hbm, ⟨53, _⟩ => ⟨S4096x200, .i32⟩
  | .hbm, ⟨54, _⟩ => ⟨S4096x200x1, .i32⟩
  | .hbm, ⟨55, _⟩ => ⟨S1x1x10, .i32⟩
  | .hbm, ⟨56, _⟩ => ⟨S4096x200x10, .i32⟩
  | .hbm, ⟨57, _⟩ => ⟨S4096x200x10, .i32⟩
  | .hbm, ⟨58, _⟩ => ⟨S4096x200x10, .i1⟩
  | .hbm, ⟨59, _⟩ => ⟨S4096x200x10, .f32⟩
  | .hbm, ⟨60, _⟩ => ⟨S10x32, .f32⟩
  | .hbm, ⟨61, _⟩ => ⟨S4096x200x32, .f32⟩
  | _, _ => ⟨S4096x200x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_call0_v0 : Ref sig .tc := ⟨.hbm, 9, rfl⟩
abbrev main_call0_v1 : Ref sig .tc := ⟨.hbm, 10, rfl⟩
abbrev main_call0_cst_0 : Ref sig .tc := ⟨.hbm, 11, rfl⟩
abbrev main_call0_v2 : Ref sig .tc := ⟨.hbm, 12, rfl⟩
abbrev main_call0_v3 : Ref sig .tc := ⟨.hbm, 13, rfl⟩
abbrev main_call0_cst_1 : Ref sig .tc := ⟨.hbm, 14, rfl⟩
abbrev main_call0_call1_v0 : Ref sig .tc := ⟨.hbm, 15, rfl⟩
abbrev main_call0_v4 : Ref sig .tc := ⟨.hbm, 16, rfl⟩
abbrev main_call0_cst_2 : Ref sig .tc := ⟨.hbm, 17, rfl⟩
abbrev main_call0_v5 : Ref sig .tc := ⟨.hbm, 18, rfl⟩
abbrev main_call0_v6 : Ref sig .tc := ⟨.hbm, 19, rfl⟩
abbrev main_call0_cst_3 : Ref sig .tc := ⟨.hbm, 20, rfl⟩
abbrev main_call0_call2_v0 : Ref sig .tc := ⟨.hbm, 21, rfl⟩
abbrev main_v5 : Ref sig .tc := ⟨.hbm, 22, rfl⟩
abbrev main_cst : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_cst : Ref sig .tc := ⟨.hbm, 28, rfl⟩
abbrev main_call1_v3 : Ref sig .tc := ⟨.hbm, 29, rfl⟩
abbrev main_call1_v4 : Ref sig .tc := ⟨.hbm, 30, rfl⟩
abbrev main_call1_cst_0 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_v15 : Ref sig .tc := ⟨.hbm, 43, rfl⟩
abbrev main_call1_v16 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c : Ref sig .tc := ⟨.hbm, 52, rfl⟩
abbrev main_v13 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩

abbrev nD : Nat := 1
abbrev τ : Topo := Topo.v7x

variable {F : FTy → Type} [FloatOps F]
-- ==== Proof.Setup.lean ====
/-
  The kernel's program as the launch theorem sees it, and the values it computes.

  `binOf num den` is the bin the kernel counts for one row: the number of `k` in `0 … 8` with `den · (k/8) < num`.
  `cell` is one word of a block of output rows, from the embedding table and the block's input words; `outAll` the
  whole flat output.  Everything is stated over any float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The handshakes' rounds beside the transfers' counters. -/
abbrev UU : Type := UH × Counters

abbrev EH : Emb UH (MT nD τ sig (HIx 1) (Elt F) ℕ UU ℕ) := embL

/-- The SparseCore and the subcore of grid point `L`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The values -/

section Vals

/-- Index `n` of a rank-one shape, wrapped at its extent. -/
def at1 {N : ℕ} [NeZero N] (n : ℕ) : (⟨1, ![N]⟩ : Shape).Idx := fun a => (Fin.ofNat N n).cast (by rw [Fin.eq_zero a]; rfl)

theorem at1_val {N : ℕ} [NeZero N] (n : ℕ) (h : n < N) (a : Fin 1) : ((at1 (N := N) n) a).val = n := by
  show n % N = n
  exact Nat.mod_eq_of_lt h

theorem eq_at1 {N : ℕ} [NeZero N] (j : (⟨1, ![N]⟩ : Shape).Idx) (n : ℕ) (h : (j 0).val = n) : j = at1 n := by
  have hlt : n < N := h ▸ (j 0).isLt
  funext a
  obtain rfl : a = 0 := Fin.eq_zero a
  exact Fin.ext (h.trans (at1_val n hlt 0).symm)

variable [FloatOps F]

/-- The count of `num` among the nine multiples of `den`. -/
def binOf (num den : F .f32) : BitVec 32 :=
  let t (w : BitVec 32) : BitVec 32 := (FloatOps.cmpf .olt (FloatOps.mulf den (Scalar.ofBits .f32 w)) num).setWidth 32
  0#32 + t 0x00000000#32 + t 0x3E000000#32 + t 0x3E800000#32 + t 0x3EC00000#32 + t 0x3F000000#32 + t 0x3F200000#32
    + t 0x3F400000#32 + t 0x3F600000#32 + t 0x3F800000#32

theorem bit_le (b : BitVec 1) : (b.setWidth 32).toNat ≤ 1 := by
  revert b; decide

theorem binOf_le (num den : F .f32) : (binOf num den).toNat ≤ 9 := by
  unfold binOf
  simp only [BitVec.toNat_add]
  have h (w : BitVec 32) := bit_le (FloatOps.cmpf .olt (FloatOps.mulf den (Scalar.ofBits .f32 w)) num)
  have h0 := h 0x00000000#32
  have h1 := h 0x3E000000#32
  have h2 := h 0x3E800000#32
  have h3 := h 0x3EC00000#32
  have h4 := h 0x3F000000#32
  have h5 := h 0x3F200000#32
  have h6 := h 0x3F400000#32
  have h7 := h 0x3F600000#32
  have h8 := h 0x3F800000#32
  have hz : (0#32).toNat = 0 := rfl
  omega

/-- The payloads' count is `binOf`, lane by lane. -/
theorem pay_bin (num den : Vec F S16 .f32) :
    k0_pay23 num den (k0_pay21 num den) (k0_pay22 den) = fun x => binOf (num x) (den x) := rfl

/-- Word `j` of a block of 1024 output rows, from the table and the block's input words. -/
def cell (tb : S320.Idx → F .f32) (b : S27648.Idx → F .f32) (j : ℕ) : F .f32 :=
  tb (at1 ((binOf (b (at1 (27 * (j / 32) + 10))) (b (at1 (27 * (j / 32) + 11)))).toNat + 10 * (j % 32)))

/-- Word `j` of the flat output, from the table and the flat input. -/
def outAll (tb : S320.Idx → F .f32) (x : S22118400.Idx → F .f32) (j : S26214400.Idx) : F .f32 :=
  tb (at1 ((binOf (x (at1 (27 * ((j 0).val / 32) + 10))) (x (at1 (27 * ((j 0).val / 32) + 11)))).toNat + 10 * ((j 0).val % 32)))

end Vals

/-! ## A scatter into a block of rows -/

/-- After group `g`'s first `e` columns: the rows of the groups before `g`, and those columns of group `g`'s rows. -/
def OutOk (W : ℕ → F .f32) (g e : ℕ) (f : S32768.Idx → F .f32) : Prop :=
  ∀ j : S32768.Idx, ((j 0).val < 512 * g ∨ ((j 0).val < 512 * (g + 1) ∧ (j 0).val % 32 < e)) → f j = W (j 0).val

theorem OutOk.next {W : ℕ → F .f32} {g : ℕ} {f : S32768.Idx → F .f32} (h : OutOk W g 32 f) : OutOk W (g + 1) 0 f := fun j hj =>
  h j (hj.elim (fun h => .inr ⟨h, Nat.mod_lt _ (by decide)⟩) fun h => absurd h.2 (by omega))

theorem foldl_hit {α β : Type} {P : α → β → Prop} [∀ k j, Decidable (P k j)] {γ : Type} (v : α → γ) (j : β) (y : γ) :
    ∀ (l : List α) (f : β → γ), (f j = y ∨ ∃ k ∈ l, P k j) → (∀ k ∈ l, P k j → v k = y) →
      (l.foldl (fun g k => fun j => if P k j then v k else g j) f) j = y := by
  intro l
  induction l with
  | nil =>
    intro f h _
    rcases h with h | ⟨k, hk, _⟩
    · exact h
    · cases hk
  | cons a l ih =>
    intro f h hv
    rw [List.foldl_cons]
    refine ih _ ?_ fun k hk => hv k (List.mem_cons_of_mem _ hk)
    by_cases ha : P a j
    · exact .inl ((if_pos ha).trans (hv a List.mem_cons_self ha))
    · rcases h with h | ⟨k, hk, hkj⟩
      · exact .inl ((if_neg ha).trans h)
      · rcases List.mem_cons.mp hk with rfl | hk
        · exact absurd hkj ha
        · exact .inr ⟨k, hk, hkj⟩

/-- One column of group `g` stored: lane `x` at word `512 g + 32 x + e`. -/
theorem OutOk.store [FloatOps F] {W : ℕ → F .f32} {g e : ℕ} (hg : g < 64) (he : e < 32) {f : S32768.Idx → F .f32} (h : OutOk W g e f)
    (iv : IVec S16 32) (v : Vec F S16 .f32) (hiv : ∀ x, (iv x).toNat = 512 * g + 32 * (x 0).val + e)
    (hv : ∀ x, v x = W (512 * g + 32 * (x 0).val + e))
    (hb : ∀ a x, ((![iv] : Fin 1 → IVec S16 32) a x).toNat < S32768.size a) :
    OutOk W g (e + 1) (storeIdx (s := S32768) (e := .f32) f ![iv] v (fun _ => 1#1) false hb) := by
  intro j hj
  have key := foldl_hit (P := fun (k : Fin 16) (j : S32768.Idx) => ∀ a, (j a).val = (idxAt ![iv] hb (Shape.ofLane (d := ![16]) k) a).val)
    (fun k => v (Shape.ofLane (d := ![16]) k)) j (W (j 0).val) (List.finRange 16) f ?_ ?_
  · unfold storeIdx
    simp only [if_true, Bool.false_eq_true, if_false]
    exact key
  · by_cases h1 : (j 0).val < 512 * g ∨ ((j 0).val < 512 * (g + 1) ∧ (j 0).val % 32 < e)
    · exact .inl (h j h1)
    · right
      refine ⟨⟨((j 0).val - 512 * g) / 32, by omega⟩, List.mem_finRange _, fun a => ?_⟩
      obtain rfl : a = 0 := Fin.eq_zero a
      show (j 0).val = (iv (Shape.ofLane (d := ![16]) _)).toNat
      rw [hiv]
      show (j 0).val = 512 * g + 32 * (((j 0).val - 512 * g) / 32) + e
      omega
  · intro k _ hk
    have h0 : (j 0).val = (iv (Shape.ofLane (d := ![16]) k)).toNat := hk 0
    show v _ = _
    rw [hv, h0, hiv]

end Cert.Proof.Hp

end
-- ==== Proof.Group.lean ====
/-
  The steps of one group of sixteen rows: a gather from a buffer held, and a gather from the table followed by the
  scatter of what it read into one column of the group's output rows.
-/
module

public import proofs.«01_k».proof.Proof.Setup

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A scratch buffer held by tile `L`, its contents read through the memref satisfying `P`. -/
def hold {s : Shape} (d : Dev nD) (L : grid0.Coords) (M : Memref sig .scVector .vmem s .f32) (P : (s.Idx → F .f32) → Prop) : sProp 𝕄 :=
  iprop(∃ f, ⌜P ((M.access (.whole s)).read (Elt F) f)⌝
    ∗ (M.access (.whole s)).loc (thr d L) ↦[(M.access (.whole s)).set]{fullShare} f)

section Steps

variable (d : Dev nD) (L : grid0.Coords)

/-- A gather from a buffer held at contents `g`. -/
theorem gather_step {s t : Shape} {α : Type} {Q : α → sProp 𝕄} {M : Memref sig .scVector .vmem s .f32} {g : s.Idx → F .f32} {idxs : Fin s.rank → IVec t 32}
    {h : ∀ a x, (idxs a x).toNat < s.size a} {hl : M.view.Loads} {k : Vec F t .f32 → Prog (TpuEff nD τ sig (Elt F) Λ₀ (thr d L).2) α} :
    hold d L M (· = g) ⊢ iprop((hold d L M (· = g) -∗ wp frame (wpE (defs₀ (F := F)) 𝒱₀ (thr d L) none) Set.univ (k (loadIdx g idxs h)) Q)
      -∗ wp frame (wpE (defs₀ (F := F)) 𝒱₀ (thr d L) none) Set.univ (SparseCore.vectorLoadIdx M idxs h hl >>= k) Q) := by
  unfold hold
  iintro ⟨%f, %hf, H⟩ Hk
  subst hf
  iapply (SparseCore.wp_vectorLoadIdx 𝒱₀ (thr d L) none Set.univ (base := M) (q := fullShare) (f := f) (Finset.Subset.refl _)) $$ H
  iintro H
  iapply Hk
  iexists f
  isplitr
  · ipureintro; rfl
  · iexact H

/-- A scatter into a buffer held. -/
theorem scatter_step {s : Shape} {α : Type} {Q : α → sProp 𝕄} {dd : Fin 1 → Nat} {M : Memref sig .scVector .vmem s .f32} {P P' : (s.Idx → F .f32) → Prop}
    {idxs : Fin s.rank → IVec ⟨1, dd⟩ 32} {v : Vec F ⟨1, dd⟩ .f32} {mask : IVec ⟨1, dd⟩ 1} {add : Bool}
    {h : ∀ a x, (idxs a x).toNat < s.size a} {hs : (M.access (.whole s)).Stores Finset.univ}
    {k : PUnit → Prog (TpuEff nD τ sig (Elt F) Λ₀ (thr d L).2) α}
    (hP : ∀ f, P f → P' (storeIdx (e := .f32) f idxs v mask add h)) :
    hold d L M P ⊢ iprop((hold d L M P' -∗ wp frame (wpE (defs₀ (F := F)) 𝒱₀ (thr d L) none) Set.univ (k ⟨⟩) Q)
      -∗ wp frame (wpE (defs₀ (F := F)) 𝒱₀ (thr d L) none) Set.univ (SparseCore.vectorStoreIdx M idxs v mask add h hs >>= k) Q) := by
  unfold hold
  iintro ⟨%f, %hf, H⟩ Hk
  iapply (SparseCore.wp_vectorStoreIdx 𝒱₀ (thr d L) none Set.univ (base := M) (f := f)) $$ H
  iintro H
  iapply Hk
  iexists ((M.access (.whole s)).write (Elt F) f (storeIdx (e := .f32) ((M.access (.whole s)).read (Elt F) f) idxs v mask add h) Finset.univ)
  isplitr
  · ipureintro
    rw [View.read_write_univ]
    exact hP _ hf
  · iexact H

/-- What the group's column steps know: the bins `v` (at most 9), the rows' bases `w`, and the words `W` to be written. -/
structure GroupOk (W : ℕ → F .f32) (tb : S320.Idx → F .f32) (g : ℕ) (v w : IVec S16 32) : Prop where
  hg : g < 64
  bin : ∀ x, (v x).toNat ≤ 9
  base : ∀ x, (w x).toNat = 512 * g + 32 * (x 0).val
  val : ∀ x e, e < 32 → tb (at1 ((v x).toNat + 10 * e)) = W (512 * g + 32 * (x 0).val + e)

theorem GroupOk.tab {W : ℕ → F .f32} {tb : S320.Idx → F .f32} {g : ℕ} {v w : IVec S16 32} (h : GroupOk W tb g v w) (e : ℕ) (he : e < 32) (x : S16.Idx) :
    (addi v (broadcast S16 (BitVec.ofNat 32 (10 * e))) x).toNat = (v x).toNat + 10 * e := by
  show (v x + BitVec.ofNat 32 (10 * e)).toNat = _
  have := h.bin x
  rw [BitVec.toNat_add, BitVec.toNat_ofNat]
  omega

theorem GroupOk.out {W : ℕ → F .f32} {tb : S320.Idx → F .f32} {g : ℕ} {v w : IVec S16 32} (h : GroupOk W tb g v w) (e : ℕ) (he : e < 32) (x : S16.Idx) :
    (addi w (broadcast S16 (BitVec.ofNat 32 e)) x).toNat = 512 * g + 32 * (x 0).val + e := by
  show (w x + BitVec.ofNat 32 e).toNat = _
  have h1 := h.base x
  have h2 := h.hg
  have h3 : (x 0).val < 16 := (x 0).isLt
  rw [BitVec.toNat_add, BitVec.toNat_ofNat, h1]
  omega

/-- One column: the table gathered at the bins, the words scattered into the group's rows. -/
theorem col_step {α : Type} {Q : α → sProp 𝕄} {W : ℕ → F .f32} {tb : S320.Idx → F .f32} {g : ℕ} {v w : IVec S16 32} (hG : GroupOk W tb g v w) (e : ℕ) (he : e < 32)
    {T : Memref sig .scVector .vmem S320 .f32} {O : Memref sig .scVector .vmem S32768 .f32} {P1 P2 : Prop} {d1 : Decidable P1} {d2 : Decidable P2}
    {i1 i2 : IVec S16 32}
    {h1 : P1 → ∀ a x, ((![i1] : Fin 1 → IVec S16 32) a x).toNat < S320.size a}
    {h2 : P2 → ∀ a x, ((![i2] : Fin 1 → IVec S16 32) a x).toNat < S32768.size a}
    {hl : T.view.Loads} {hs : (O.access (.whole S32768)).Stores Finset.univ}
    {k : PUnit → Prog (TpuEff nD τ sig (Elt F) Λ₀ (thr d L).2) α}
    (hi1 : i1 = addi v (broadcast S16 (BitVec.ofNat 32 (10 * e))))
    (hi2 : i2 = addi w (broadcast S16 (BitVec.ofNat 32 e)))
    (hP1 : (∀ a x, ((![i1] : Fin 1 → IVec S16 32) a x).toNat < S320.size a) → P1)
    (hP2 : (∀ a x, ((![i2] : Fin 1 → IVec S16 32) a x).toNat < S32768.size a) → P2) :
    iprop(hold d L T (· = tb) ∗ hold d L O (OutOk W g e)) ⊢ iprop(
      (iprop(hold d L T (· = tb) ∗ hold d L O (OutOk W g (e + 1))) -∗ wp frame (wpE (defs₀ (F := F)) 𝒱₀ (thr d L) none) Set.univ (k ⟨⟩) Q)
      -∗ wp frame (wpE (defs₀ (F := F)) 𝒱₀ (thr d L) none) Set.univ
          (Prog.lift (TpuEff.assume P1 d1) >>= fun x => SparseCore.vectorLoadIdx T ![i1] (h1 x.down) hl >>= fun vals =>
            Prog.lift (TpuEff.assume P2 d2) >>= fun y => SparseCore.vectorStoreIdx O ![i2] vals (fun _ => 1#1) false (h2 y.down) hs >>= k) Q) := by
  have hP1 : P1 := hP1 fun a x => by
    obtain rfl : a = 0 := Fin.eq_zero a
    show (i1 x).toNat < 320
    rw [hi1, hG.tab e he]
    have := hG.bin x
    omega
  have hP2 : P2 := hP2 fun a x => by
    obtain rfl : a = 0 := Fin.eq_zero a
    show (i2 x).toNat < 32768
    rw [hi2, hG.out e he]
    have h3 : (x 0).val < 16 := (x 0).isLt
    have := hG.hg
    omega
  simp only [Prog.lift, Prog.bind_op, Prog.bind_ret]
  iintro ⟨HT, HO⟩ Hk
  rw [wp_assume_of _ _ _ _ hP1]
  iapply (gather_step d L) $$ HT
  iintro HT
  rw [wp_assume_of _ _ _ _ hP2]
  iapply (scatter_step d L (P' := OutOk W g (e + 1)) ?hst) $$ HO
  case hst =>
    intro f hf
    refine hf.store hG.hg he i2 _ (fun x => by rw [hi2]; exact hG.out e he x) (fun x => ?_) _
    show tb (idxAt ![i1] (h1 hP1) x) = _
    rw [← hG.val x e he]
    refine congrArg tb (eq_at1 _ _ ?_)
    show (i1 x).toNat = _
    rw [hi1, hG.tab e he]
  iintro HO
  iapply Hk
  isplitl [HT] <;> iassumption

end Steps

/-! ## The words of a group -/

theorem iv_toNat (k : ℕ) (hk : k < 2 ^ 16) : (Scf.iv 0#32 1#32 k).toNat = k := by
  show (0#32 + BitVec.ofNat 32 k * 1#32).toNat = k
  rw [BitVec.mul_one, BitVec.zero_add, BitVec.toNat_ofNat]
  exact Nat.mod_eq_of_lt (by omega)

theorem lane_mul (x : S16.Idx) (c : ℕ) (hc : c < 64) :
    (muli (iota .scVector S16 32 [0] iota_S16_d0_w32_scVector) (broadcast S16 (BitVec.ofNat 32 c)) x).toNat = (x 0).val * c := by
  show (BitVec.ofNat 32 (0 * 16 + (x 0).val) * BitVec.ofNat 32 c).toNat = _
  have h3 : (x 0).val < 16 := (x 0).isLt
  have h4 : (x 0).val * c < 16 * 64 := Nat.mul_lt_mul'' h3 hc
  rw [BitVec.toNat_mul, BitVec.toNat_ofNat, BitVec.toNat_ofNat, Nat.mod_eq_of_lt (a := c) (by omega), Nat.mod_eq_of_lt (a := 0 * 16 + _) (by omega),
    Nat.zero_mul, Nat.zero_add]
  exact Nat.mod_eq_of_lt (by omega)

theorem num_word (k : ℕ) (hk : k < 64) (x : S16.Idx) :
    (k0_pay1 x + (Scf.iv 0#32 1#32 k * 432#32 + 10#32)).toNat = 27 * (16 * k + (x 0).val) + 10 := by
  have h1 : (k0_pay1 x).toNat = (x 0).val * 27 := lane_mul x 27 (by omega)
  have h2 := iv_toNat k (by omega)
  have h3 : (x 0).val < 16 := (x 0).isLt
  rw [BitVec.toNat_add, BitVec.toNat_add, BitVec.toNat_mul, h1, h2]
  simp only [BitVec.toNat_ofNat]
  omega

theorem den_word (k : ℕ) (hk : k < 64) (x : S16.Idx) :
    (k0_pay1 x + (Scf.iv 0#32 1#32 k * 432#32 + 10#32 + 1#32)).toNat = 27 * (16 * k + (x 0).val) + 11 := by
  have h1 : (k0_pay1 x).toNat = (x 0).val * 27 := lane_mul x 27 (by omega)
  have h2 := iv_toNat k (by omega)
  have h3 : (x 0).val < 16 := (x 0).isLt
  rw [BitVec.toNat_add, BitVec.toNat_add, BitVec.toNat_add, BitVec.toNat_mul, h1, h2]
  simp only [BitVec.toNat_ofNat]
  omega

theorem base_word (k : ℕ) (hk : k < 64) (x : S16.Idx) :
    (k0_pay2 x + Scf.iv 0#32 1#32 k * 512#32).toNat = 512 * k + 32 * (x 0).val := by
  have h1 : (k0_pay2 x).toNat = (x 0).val * 32 := lane_mul x 32 (by omega)
  have h2 := iv_toNat k (by omega)
  have h3 : (x 0).val < 16 := (x 0).isLt
  rw [BitVec.toNat_add, BitVec.toNat_mul, h1, h2]
  simp only [BitVec.toNat_ofNat]
  omega

/-- The hit points and the maximum of a group's rows, in the block's input words. -/
def gnum (b : S27648.Idx → F .f32) (g : ℕ) : Vec F S16 .f32 := fun x => b (at1 (27 * (16 * g + (x 0).val) + 10))
def gden (b : S27648.Idx → F .f32) (g : ℕ) : Vec F S16 .f32 := fun x => b (at1 (27 * (16 * g + (x 0).val) + 11))

theorem groupOk (tb : S320.Idx → F .f32) (b : S27648.Idx → F .f32) (g : ℕ) (hg : g < 64) (v w : IVec S16 32)
    (hv : v = fun x => binOf (gnum b g x) (gden b g x)) (hw : ∀ x, (w x).toNat = 512 * g + 32 * (x 0).val) :
    GroupOk (cell tb b) tb g v w where
  hg := hg
  bin x := by subst hv; exact binOf_le _ _
  base := hw
  val x e he := by
    subst hv
    have h3 : (x 0).val < 16 := (x 0).isLt
    unfold cell
    rw [show (512 * g + 32 * (x 0).val + e) / 32 = 16 * g + (x 0).val by omega, show (512 * g + 32 * (x 0).val + e) % 32 = e by omega]
    rfl

/-- A checked gather of a group's words. -/
theorem look_step (d : Dev nD) (L : grid0.Coords) {α : Type} {Q : α → sProp 𝕄} {M : Memref sig .scVector .vmem S27648 .f32} {b : S27648.Idx → F .f32} {P1 : Prop} {d1 : Decidable P1}
    {i1 : IVec S16 32} {h1 : P1 → ∀ a x, ((![i1] : Fin 1 → IVec S16 32) a x).toNat < S27648.size a} {hl : M.view.Loads}
    {k : Vec F S16 .f32 → Prog (TpuEff nD τ sig (Elt F) Λ₀ (thr d L).2) α} (c : ℕ → ℕ) (hc : ∀ n, n < 16 → c n < 27648) (hi : ∀ x, (i1 x).toNat = c (x 0).val)
    (hP : (∀ a x, ((![i1] : Fin 1 → IVec S16 32) a x).toNat < S27648.size a) → P1) :
    hold d L M (· = b) ⊢ iprop((hold d L M (· = b) -∗ wp frame (wpE (defs₀ (F := F)) 𝒱₀ (thr d L) none) Set.univ (k fun x => b (at1 (c (x 0).val))) Q)
      -∗ wp frame (wpE (defs₀ (F := F)) 𝒱₀ (thr d L) none) Set.univ
          (Prog.lift (TpuEff.assume P1 d1) >>= fun x => SparseCore.vectorLoadIdx M ![i1] (h1 x.down) hl >>= k) Q) := by
  have hi' : ∀ a x, ((![i1] : Fin 1 → IVec S16 32) a x).toNat < S27648.size a := fun a x => by
    obtain rfl : a = 0 := Fin.eq_zero a
    exact lt_of_eq_of_lt (hi x) (hc _ (x 0).isLt)
  have hP := hP hi'
  have e : loadIdx (F := F) (e := .f32) b ![i1] hi' = fun x => b (at1 (c (x 0).val)) := funext fun x => congrArg b (eq_at1 _ _ (hi x))
  rw [← e]
  simp only [Prog.lift, Prog.bind_op, Prog.bind_ret]
  iintro H Hk
  rw [wp_assume_of _ _ _ _ hP]
  iapply (gather_step d L) $$ H
  iintro H
  iapply Hk
  iexact H

end Cert.Proof.Hp

end
-- ==== Proof.Chunk.lean ====
/-
  One chunk's copies: the input words started and awaited, the output rows started and awaited, at one tile.
-/
module

public import proofs.«01_k».proof.Proof.Group
public import Idealize.ShloMosaic.Lib.SparseCore.FromWhole

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

/-- The flat input, the table and the flat output, as a tile addresses them. -/
abbrev xW : Memref sig .scVector .hbm S22118400 .f32 := Memref.whole main_v0_scv
abbrev wW : Memref sig .scVector .hbm S320 .f32 := Memref.whole main_v1_scv
abbrev oW : Memref sig .scVector .hbm S26214400 .f32 := Memref.whole main_v2_scv

/-- The words of chunk `C` of the flat input. -/
def xin (X : S22118400.Idx → F .f32) (C : ℕ) : S27648.Idx → F .f32 := fun j => X (at1 (27648 * C + (j 0).val))

/-- The output's elements of chunk `C`. -/
def pc (C : ℕ) : Finset S26214400.Idx := Finset.univ.filter fun j => 32768 * C ≤ (j 0).val ∧ (j 0).val < 32768 * (C + 1)

theorem mem_pc {C : ℕ} {j : S26214400.Idx} : j ∈ pc C ↔ 32768 * C ≤ (j 0).val ∧ (j 0).val < 32768 * (C + 1) := by
  simp [pc]

/-- A chunk's words of the tile's block are the words the whole output takes there. -/
theorem cell_xin (tb : S320.Idx → F .f32) (X : S22118400.Idx → F .f32) (C : ℕ) (hC : C < 800) (j : ℕ) (hj : j < 32768) :
    cell tb (xin X C) j = outAll tb X (at1 (32768 * C + j)) := by
  unfold cell outAll xin
  rw [at1_val (N := 26214400) (32768 * C + j) (by omega)]
  rw [at1_val (N := 27648) (27 * (j / 32) + 10) (by omega), at1_val (N := 27648) (27 * (j / 32) + 11) (by omega)]
  rw [show 27 * ((32768 * C + j) / 32) + 10 = 27648 * C + (27 * (j / 32) + 10) by omega,
    show 27 * ((32768 * C + j) / 32) + 11 = 27648 * C + (27 * (j / 32) + 11) by omega, show (32768 * C + j) % 32 = j % 32 by omega]

section Copies

variable (d : Dev nD) (L : grid0.Coords)

/-- A scratch buffer held, through its memref's own view. -/
theorem hold_view {s : Shape} (M : Memref sig .scVector .vmem s .f32) (P : (s.Idx → F .f32) → Prop) :
    hold d L M P = iprop(∃ f, ⌜P (M.view.read (Elt F) f)⌝ ∗ M.view.loc (thr d L) ↦[M.view.set]{fullShare} f) := by
  have e : ∀ x, (M.access (.whole s)).emb x = M.view.emb x := fun x => congrArg M.view.emb (Rect.emb_whole_apply s x)
  have hset : (M.access (.whole s)).set = M.view.set := by
    unfold View.set
    ext i
    simp only [Finset.mem_map, Finset.mem_univ, true_and, e]
    exact Iff.rfl
  have hread : ∀ f, (M.access (.whole s)).read (Elt F) f = M.view.read (Elt F) f := fun f => funext fun x => by
    rw [View.read_apply, View.read_apply, e]
  unfold hold
  rw [hset]
  simp only [hread]

theorem hold_any {s : Shape} (M : Memref sig .scVector .vmem s .f32) (P : (s.Idx → F .f32) → Prop) :
    hold d L M P ⊢ hold d L M (fun _ => True) := by
  unfold hold
  iintro ⟨%f, %hf, H⟩
  iexists f
  isplitr
  · ipureintro; trivial
  · iexact H

theorem hold_mono {s : Shape} (M : Memref sig .scVector .vmem s .f32) {P P' : (s.Idx → F .f32) → Prop} (h : ∀ f, P f → P' f) :
    hold d L M P ⊢ hold d L M P' := by
  unfold hold
  iintro ⟨%f, %hf, H⟩
  iexists f
  isplitr
  · ipureintro; exact h _ hf
  · iexact H

/-- The tile's waits: those before, and waits at index `none`. -/
def ow (O : CellTallies nD τ sig (HIx 1)) (W : Waits sig (HIx 1)) : sProp 𝕄 :=
  iprop(∃ W', ⌜∀ p ∈ W', p ∈ W ∨ p.2 = none⌝ ∗ owes (thr d L) O W')

/-- A read share of the flat input. -/
abbrev xSh (q : PosShare TreeShare) (X : S22118400.Idx → F .f32) : sProp 𝕄 := xW.view.loc (thr d L) ↦{q} X

/-- Chunk `C`'s input words on their way into `B`. -/
def fin (q : PosShare TreeShare) (X : S22118400.Idx → F .f32) (B : Memref sig .scVector .vmem S27648 .f32) (sm : DmaSem sig) (C : ℕ) : sProp 𝕄 :=
  Flight countersEmb (thr d L) (.dma sm) (none : HIx 1) B.view.dmaCredit iprop(hold d L B (· = xin X C) ∗ xSh d L q X)

/-- The output's elements of chunk `C`, at contents `g`. -/
abbrev oPc (C : ℕ) (g : S26214400.Idx → F .f32) : sProp 𝕄 := oW.view.loc (thr d L) ↦[pc C]{fullShare} g

/-- Chunk `C`'s output rows on their way out of `A`. -/
def fout (G : S26214400.Idx → F .f32) (A : Memref sig .scVector .vmem S32768 .f32) (sm : DmaSem sig) (C : ℕ) : sProp 𝕄 :=
  Flight countersEmb (thr d L) (.dma sm) (none : HIx 1) (oW.view.ref.dmaCredit S32768 .f32) iprop(oPc d L C G ∗ hold d L A (fun _ => True))

theorem xin_read (X : S22118400.Idx → F .f32) (C : ℕ) (off : Fin 1 → ℕ) (hinb : ∀ a, off a + S27648.size a ≤ S22118400.size a) (hst)
    (ho : off = ![27648 * C]) :
    (xW.slice (Rect.unit (s := S22118400) off S27648.size hinb) hst).view.read (Elt F) X = xin X C := by
  subst ho
  funext j
  rw [View.read_apply]
  refine congrArg X (eq_at1 _ _ ?_)
  show 27648 * C + 1 * (j 0).val = _
  omega

/-- The copy of chunk `C`'s input words started. -/
theorem in_start {α : Type} {Q : α → sProp 𝕄} {q : PosShare TreeShare} {X : S22118400.Idx → F .f32} {B : Memref sig .scVector .vmem S27648 .f32} {sm : DmaSem sig} (C : ℕ)
    {off : Fin 1 → ℕ} {hinb : ∀ a, off a + S27648.size a ≤ S22118400.size a} {hst} {h1} {h2} {h3}
    {k : PUnit → Prog (TpuEff nD τ sig (Elt F) Λ₀ (thr d L).2) α} (ho : off = ![27648 * C]) :
    iprop(hold d L B (fun _ => True) ∗ xSh d L q X ∗ semVal (thr d L, .dma sm) 0)
      ⊢ iprop((fin d L q X B sm C -∗ wp frame (wpE (defs₀ (F := F)) 𝒱₀ (thr d L) none) Set.univ (k ⟨⟩) Q)
        -∗ wp frame (wpE (defs₀ (F := F)) 𝒱₀ (thr d L) none) Set.univ
          (Prog.lift (.enqueueDma (xW.slice (Rect.unit (s := S22118400) off S27648.size hinb) hst) (.here B) (.dma sm) h1 h2 h3) >>= k) Q) := by
  rw [hold_view]
  iintro ⟨⟨%f, -, HB⟩, HX, Hs⟩ Hk
  iapply (Transfers.wp_dmaFromWhole countersEmb 𝒱₀ (thr d L) none (none : HIx 1) B.view.dmaCredit rfl (B.view.dmaCredit_pos (show 0 < S27648.numel by decide)) (Finset.Subset.refl _)) $$ [HB HX Hs]
  · isplitl [HX]; · iexact HX
    isplitl [HB]; · iexact HB
    iexact Hs
  iintro Hf
  iapply Hk
  unfold fin
  iapply (Transfers.Flight_mono countersEmb (thr d L) ?hm) $$ Hf
  case hm =>
    rw [hold_view]
    iintro ⟨HB, HX⟩
    isplitl [HB]
    · iexists (B.view.write (Elt F) f (ReadAs.same.apply ((xW.slice (Rect.unit (s := S22118400) off S27648.size hinb) hst).view.read (Elt F) X)) Finset.univ)
      isplitr
      · ipureintro
        exact (View.read_write_univ _ _).trans (xin_read X C off hinb hst ho)
      · iexact HB
    · iexact HX

/-- The input words awaited. -/
theorem in_wait {α : Type} {Q : α → sProp 𝕄} {O : CellTallies nD τ sig (HIx 1)} {W : Waits sig (HIx 1)} {q : PosShare TreeShare} {X : S22118400.Idx → F .f32}
    {B : Memref sig .scVector .vmem S27648 .f32} {sm : DmaSem sig} {C : ℕ} {src : Memref sig .scVector .hbm S27648 .f32} {h1} {h2}
    {k : PUnit → Prog (TpuEff nD τ sig (Elt F) Λ₀ (thr d L).2) α} :
    iprop(MayWaits (thr d L) (none : HIx 1) O ∗ fin d L q X B sm C ∗ ow d L O W)
      ⊢ iprop((iprop(hold d L B (· = xin X C) ∗ xSh d L q X ∗ semVal (thr d L, .dma sm) 0 ∗ ow d L O W)
          -∗ wp frame (wpE (defs₀ (F := F)) 𝒱₀ (thr d L) none) Set.univ (k ⟨⟩) Q)
        -∗ wp frame (wpE (defs₀ (F := F)) 𝒱₀ (thr d L) none) Set.univ (Prog.lift (.waitDma2 sm src B h1 h2) >>= k) Q) := by
  unfold ow fin
  iintro ⟨Hmw, Hf, %W', %hW', HO⟩ Hk
  ihave Hmw' := (Transfers.MayWaits.elim (.dma sm)) $$ Hmw
  iapply (Transfers.wp_waitLocalO countersEmb 𝒱₀ (thr d L) none (none : HIx 1) (O := O) (W := W') rfl) $$ [Hf HO Hmw']
  · isplitl [Hf]; · iexact Hf
    isplitl [HO]; · iexact HO
    iexact Hmw'
  iintro ⟨⟨HB, HX⟩, Hs, HO⟩
  iapply Hk
  isplitl [HB]; · iexact HB
  isplitl [HX]; · iexact HX
  isplitl [Hs]; · iexact Hs
  iexists (insert (SemLoc.dma sm, (none : HIx 1)) W')
  isplitr
  · ipureintro
    intro p hp
    rcases Finset.mem_insert.mp hp with hp | hp
    · exact .inr (hp ▸ rfl)
    · exact hW' p hp
  · iexact HO

theorem pc_write (G g : S26214400.Idx → F .f32) (w : S32768.Idx → F .f32) (C : ℕ) (off : Fin 1 → ℕ) (hinb : ∀ a, off a + S32768.size a ≤ S26214400.size a) (hst)
    (ho : off = ![32768 * C]) (hw : ∀ j : S32768.Idx, w j = G (at1 (32768 * C + (j 0).val))) :
    (∀ i ∈ pc C, (oW.slice (Rect.unit (s := S26214400) off S32768.size hinb) hst).view.write (Elt F) g w Finset.univ i = G i)
      ∧ (oW.slice (Rect.unit (s := S26214400) off S32768.size hinb) hst).view.set ⊆ pc C := by
  subst ho
  have hemb : ∀ j : S32768.Idx, (oW.slice (Rect.unit (s := S26214400) ![32768 * C] S32768.size hinb) hst).view.emb j = at1 (N := 26214400) (32768 * C + (j 0).val) := fun j => by
    refine eq_at1 _ _ ?_
    show 32768 * C + 1 * (j 0).val = _
    omega
  constructor
  · intro i hi
    have hi := mem_pc.mp hi
    have hl : (i 0).val - 32768 * C < 32768 := by omega
    have e : (oW.slice (Rect.unit (s := S26214400) ![32768 * C] S32768.size hinb) hst).view.emb (at1 (N := 32768) ((i 0).val - 32768 * C)) = i := by
      rw [hemb, at1_val (N := 32768) _ hl]
      exact (eq_at1 i _ (by omega)).symm
    have h := View.write_emb_of_mem (v := (oW.slice (Rect.unit (s := S26214400) ![32768 * C] S32768.size hinb) hst).view) (Val := Elt F) g w
      (x := at1 (N := 32768) ((i 0).val - 32768 * C)) (Finset.mem_univ _)
    rw [e] at h
    rw [h]
    refine (hw _).trans (congrArg G ?_)
    rw [at1_val (N := 32768) _ hl]
    exact (eq_at1 i _ (by omega)).symm
  · intro i hi
    obtain ⟨j, -, rfl⟩ := Finset.mem_map.mp hi
    have h3 : (j 0).val < 32768 := (j 0).isLt
    have e := hemb j
    have hlt := hinb 0
    have hlt : 32768 * C + 32768 ≤ 26214400 := hlt
    refine mem_pc.mpr ?_
    rw [show (oW.slice (Rect.unit (s := S26214400) ![32768 * C] S32768.size hinb) hst).view.emb j = _ from e, at1_val (N := 26214400) _ (by omega)]
    omega

/-- The copy of chunk `C`'s output rows started. -/
theorem out_start {α : Type} {Q : α → sProp 𝕄} {G : S26214400.Idx → F .f32} {W : ℕ → F .f32} {A : Memref sig .scVector .vmem S32768 .f32} {sm : DmaSem sig} (C : ℕ)
    {off : Fin 1 → ℕ} {hinb : ∀ a, off a + S32768.size a ≤ S26214400.size a} {hst} {h1} {h2} {h3}
    {k : PUnit → Prog (TpuEff nD τ sig (Elt F) Λ₀ (thr d L).2) α} (ho : off = ![32768 * C]) (hW : ∀ j, j < 32768 → W j = G (at1 (32768 * C + j))) :
    iprop(hold d L A (OutOk W 64 0) ∗ (∃ g, oPc d L C g) ∗ semVal (thr d L, .dma sm) 0)
      ⊢ iprop((fout d L G A sm C -∗ wp frame (wpE (defs₀ (F := F)) 𝒱₀ (thr d L) none) Set.univ (k ⟨⟩) Q)
        -∗ wp frame (wpE (defs₀ (F := F)) 𝒱₀ (thr d L) none) Set.univ
          (Prog.lift (.enqueueDma A (.here (oW.slice (Rect.unit (s := S26214400) off S32768.size hinb) hst)) (.dma sm) h1 h2 h3) >>= k) Q) := by
  rw [hold_view]
  iintro ⟨⟨%f, %hf, HA⟩, ⟨%g, HP⟩, Hs⟩ Hk
  have hw : ∀ j : S32768.Idx, A.view.read (Elt F) f j = G (at1 (32768 * C + (j 0).val)) := fun j => by
    have h3 : (j 0).val < 32768 := (j 0).isLt
    exact (hf j (.inl (by omega))).trans (hW _ h3)
  have hp := pc_write G g _ C off hinb hst ho hw
  iapply (Transfers.wp_dmaLocal countersEmb 𝒱₀ (thr d L) none (none : HIx 1) (oW.view.ref.dmaCredit S32768 .f32) (Sd := pc C) (fd := g) rfl
    (View.dmaCredit_pos (oW.slice (Rect.unit (s := S26214400) off S32768.size hinb) hst).view (show 0 < S32768.numel by decide)) hp.2) $$ [HA HP Hs]
  · isplitl [HA]; · iexact HA
    isplitl [HP]; · iexact HP
    iexact Hs
  iintro Hf
  iapply Hk
  unfold fout
  iapply (Transfers.Flight_mono countersEmb (thr d L) ?hm) $$ Hf
  case hm =>
    rw [hold_view]
    iintro ⟨HP, HA⟩
    isplitl [HP]
    · iapply (Entails.of_eq (pointsTo_congr hp.1)) $$ HP
    · iexists f
      isplitr
      · ipureintro; trivial
      · iexact HA

/-- The output rows awaited. -/
theorem out_wait {α : Type} {Q : α → sProp 𝕄} {O : CellTallies nD τ sig (HIx 1)} {W : Waits sig (HIx 1)} {G : S26214400.Idx → F .f32}
    {A : Memref sig .scVector .vmem S32768 .f32} {sm : DmaSem sig} {C : ℕ}
    {off : Fin 1 → ℕ} {hinb : ∀ a, off a + S32768.size a ≤ S26214400.size a} {hst} {h1} {h2}
    {k : PUnit → Prog (TpuEff nD τ sig (Elt F) Λ₀ (thr d L).2) α} :
    iprop(MayWaits (thr d L) (none : HIx 1) O ∗ fout d L G A sm C ∗ ow d L O W)
      ⊢ iprop((iprop(oPc d L C G ∗ hold d L A (fun _ => True) ∗ semVal (thr d L, .dma sm) 0 ∗ ow d L O W)
          -∗ wp frame (wpE (defs₀ (F := F)) 𝒱₀ (thr d L) none) Set.univ (k ⟨⟩) Q)
        -∗ wp frame (wpE (defs₀ (F := F)) 𝒱₀ (thr d L) none) Set.univ
          (Prog.lift (.waitDma2 sm A (oW.slice (Rect.unit (s := S26214400) off S32768.size hinb) hst) h1 h2) >>= k) Q) := by
  unfold ow fout
  iintro ⟨Hmw, Hf, %W', %hW', HO⟩ Hk
  ihave Hmw' := (Transfers.MayWaits.elim (.dma sm)) $$ Hmw
  iapply (Transfers.wp_waitLocalO countersEmb 𝒱₀ (thr d L) none (none : HIx 1) (O := O) (W := W') rfl) $$ [Hf HO Hmw']
  · isplitl [Hf]; · iexact Hf
    isplitl [HO]; · iexact HO
    iexact Hmw'
  iintro ⟨⟨HP, HA⟩, Hs, HO⟩
  iapply Hk
  isplitl [HP]; · iexact HP
  isplitl [HA]; · iexact HA
  isplitl [Hs]; · iexact Hs
  iexists (insert (SemLoc.dma sm, (none : HIx 1)) W')
  isplitr
  · ipureintro
    intro p hp
    rcases Finset.mem_insert.mp hp with hp | hp
    · exact .inr (hp ▸ rfl)
    · exact hW' p hp
  · iexact HO

end Copies

end Cert.Proof.Hp

end
-- ==== Proof.Trip.lean ====
/-
  The state of a tile between two chunks: the next chunk's words on their way in, the last two chunks' rows on their way out.
-/
module

public import proofs.«01_k».proof.Proof.Chunk

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

/-! ## The loop's conditions -/

theorem trips25 : k0_t1_loop.trips = 25 := by decide
theorem trips64 : k0_t2_loop.trips = 64 := by decide
theorem trips64' : k0_t3_loop.trips = 64 := by decide

theorem cond1_iff (t : Fin k0_t1_loop.trips) : k0_cond1 t = 1#1 ↔ t.val % 2 = 0 := by decide +revert
theorem cond4_iff (t : Fin k0_t1_loop.trips) : k0_cond4 t = 1#1 ↔ t.val % 2 = 1 := by decide +revert
theorem cond2_iff (t : Fin k0_t1_loop.trips) : k0_cond2 t = 1#1 ↔ t.val + 1 < 25 := by decide +revert
theorem cond5_iff (t : Fin k0_t1_loop.trips) : k0_cond5 t = 1#1 ↔ t.val + 1 < 25 := by decide +revert
theorem cond3_iff (t : Fin k0_t1_loop.trips) :
    Scalar.cmpi .ne (Scalar.extui (Scalar.cmpi .sge (Scf.iv 0#32 1#32 t.val) 2#32) : BitVec 32) 0#32 = 1#1 ↔ 2 ≤ t.val := by decide +revert

/-- The first chunk of the tile. -/
def c0 (L : grid0.Coords) : ℕ := 25 * (2 * (L 1).val + (L 0).val)

theorem c0_le (L : grid0.Coords) : c0 L ≤ 775 := by
  have h0 : (L 0).val < 2 := (L 0).isLt
  have h1 : (L 1).val < 16 := (L 1).isLt
  unfold c0; omega

theorem off1_c0 (L : grid0.Coords) : k0_off1 L = ![27648 * c0 L] := by
  rw [k0_off1_eq, c0]; congr 1; omega
theorem off2_c0 (L : grid0.Coords) (t : Fin k0_t1_loop.trips) : k0_off2 L t = ![27648 * (c0 L + (t.val + 1))] := by
  rw [k0_off2_eq, c0]; congr 1; omega
theorem off4_c0 (L : grid0.Coords) (t : Fin k0_t1_loop.trips) : k0_off4 L t = ![27648 * (c0 L + (t.val + 1))] := by
  rw [k0_off4_eq, c0]; congr 1; omega
theorem off3_c0 (L : grid0.Coords) (t : Fin k0_t1_loop.trips) : k0_off3 L t = ![32768 * (c0 L + t.val)] := by
  rw [k0_off3_eq, c0]; congr 1; omega
theorem off5_c0 (L : grid0.Coords) (t : Fin k0_t1_loop.trips) : k0_off5 L t = ![32768 * (c0 L + t.val)] := by
  rw [k0_off5_eq, c0]; congr 1; omega

section State

variable (d : Dev nD) (L : grid0.Coords) (q : PosShare TreeShare) (X : S22118400.Idx → F .f32) (G : S26214400.Idx → F .f32) (tb : S320.Idx → F .f32)

/-- The buffer of chunk `t`: its words on their way in; past the last chunk, free. -/
def inSlot (B : Memref sig .scVector .vmem S27648 .f32) (sm : DmaSem sig) (t : ℕ) : sProp 𝕄 :=
  if t < 25 then fin d L q X B sm (c0 L + t) else iprop(hold d L B (fun _ => True) ∗ xSh d L q X ∗ semVal (thr d L, .dma sm) 0)

/-- An output buffer two chunks on: the rows of chunk `m` on their way out at `m + 2`; before that, free. -/
def outSlot (A : Memref sig .scVector .vmem S32768 .f32) (sm : DmaSem sig) : ℕ → sProp 𝕄
  | m + 2 => fout d L G A sm (c0 L + m)
  | _ => iprop(hold d L A (fun _ => True) ∗ semVal (thr d L, .dma sm) 0)

/-- The tile's rows before chunk `t - 2`, written. -/
def outDone (t : ℕ) : sProp 𝕄 := bigSep (Finset.range (t - 2)) fun k => oPc d L (c0 L + k) G

/-- The tile's rows from chunk `t` on, not yet written. -/
def outTodo (t : ℕ) : sProp 𝕄 := bigSep (Finset.Ico t 25) fun k => iprop(∃ g, oPc d L (c0 L + k) g)

theorem outTodo_take (t : ℕ) (ht : t < 25) : (outTodo d L t : sProp 𝕄) ⊢ iprop((∃ g, oPc d L (c0 L + t) g) ∗ outTodo d L (t + 1)) := by
  unfold outTodo
  rw [← Finset.insert_Ico_add_one_left_eq_Ico ht]
  exact Entails.of_eq (SparseCore.bigSep_insert' (by simp))

theorem outDone_put (m : ℕ) : iprop(outDone d L G (m + 2) ∗ oPc d L (c0 L + m) G) ⊢ (outDone d L G (m + 2 + 1) : sProp 𝕄) := by
  unfold outDone
  rw [show m + 2 + 1 - 2 = m + 1 by omega, show m + 2 - 2 = m by omega, Finset.range_add_one]
  rw [SparseCore.bigSep_insert' (by simp)]
  exact sep_comm.1

theorem outDone_low (t : ℕ) (ht : t < 2) : (outDone d L G t : sProp 𝕄) = outDone d L G (t + 1) := by
  unfold outDone
  rw [show t - 2 = 0 by omega, show t + 1 - 2 = 0 by omega]

/-- Between chunks: `b0 s0 a0 z0` the buffers and semaphores of chunk `t`'s parity, `b1 s1 a1 z1` the other's. -/
def between (O : CellTallies nD τ sig (HIx 1)) (W : Waits sig (HIx 1)) (T : Memref sig .scVector .vmem S320 .f32)
    (b0 : Memref sig .scVector .vmem S27648 .f32) (s0 : DmaSem sig) (a0 : Memref sig .scVector .vmem S32768 .f32) (z0 : DmaSem sig)
    (b1 : Memref sig .scVector .vmem S27648 .f32) (s1 : DmaSem sig) (a1 : Memref sig .scVector .vmem S32768 .f32) (z1 : DmaSem sig) (t : ℕ) : sProp 𝕄 :=
  iprop(MayWaits (thr d L) (none : HIx 1) O ∗ hold d L T (· = tb) ∗ inSlot d L q X b0 s0 t ∗ (hold d L b1 (fun _ => True) ∗ semVal (thr d L, .dma s1) 0)
    ∗ outSlot d L G a0 z0 t ∗ outSlot d L G a1 z1 (t + 1) ∗ outDone d L G t ∗ outTodo d L t ∗ ow d L O W)

/-- The next chunk's words started, when there is one. -/
theorem next_step {α : Type} {Q : α → sProp 𝕄} {B : Memref sig .scVector .vmem S27648 .f32} {sm : DmaSem sig} (t : ℕ) {c : BitVec 1}
    {off : Fin 1 → ℕ} {hinb : c = 1#1 → ∀ a, off a + S27648.size a ≤ S22118400.size a} {hst : ∀ h : c = 1#1, ∀ a, (Rect.unit (s := S22118400) off S27648.size (hinb h)).stride a = 1}
    {h1 : ∀ h : c = 1#1, (xW.slice (Rect.unit (s := S22118400) off S27648.size (hinb h)) (hst h)).view.WordExact} {h2 : B.view.WordExact}
    {h3 : DmaTarget.Typed (nD := nD) Space.hbm (SemLoc.dma sm) (DmaTarget.here (p := (thr d L).2) B)}
    {k : Prog (TpuEff nD τ sig (Elt F) Λ₀ (thr d L).2) α} (hc : c = 1#1 ↔ t + 1 < 25) (ho : off = ![27648 * (c0 L + (t + 1))]) :
    iprop(hold d L B (fun _ => True) ∗ xSh d L q X ∗ semVal (thr d L, .dma sm) 0)
      ⊢ iprop((inSlot d L q X B sm (t + 1) -∗ wp frame (wpE (defs₀ (F := F)) 𝒱₀ (thr d L) none) Set.univ k Q)
        -∗ wp frame (wpE (defs₀ (F := F)) 𝒱₀ (thr d L) none) Set.univ
          (if h : c = 1#1 then
            Prog.lift (.enqueueDma (xW.slice (Rect.unit (s := S22118400) off S27648.size (hinb h)) (hst h)) (.here B) (.dma sm) (h1 h) h2 h3) >>= fun _ => k
          else k) Q) := by
  unfold inSlot
  by_cases h : c = 1#1
  · rw [dif_pos h, if_pos (hc.mp h)]
    exact in_start (F := F) d L (k := fun _ => k) (c0 L + (t + 1)) ho
  · rw [dif_neg h, if_neg fun h' => h (hc.mpr h')]
    iintro H Hk
    iapply Hk
    iexact H

/-- The rows of two chunks before awaited, when there are any. -/
theorem back_step {α : Type} {Q : α → sProp 𝕄} {O : CellTallies nD τ sig (HIx 1)} {W : Waits sig (HIx 1)} {A : Memref sig .scVector .vmem S32768 .f32} {sm : DmaSem sig} (t : ℕ) {c : BitVec 1}
    {off : Fin 1 → ℕ} {hinb : ∀ a, off a + S32768.size a ≤ S26214400.size a} {hst} {h1} {h2}
    {k : Prog (TpuEff nD τ sig (Elt F) Λ₀ (thr d L).2) α} (hc : c = 1#1 ↔ 2 ≤ t) :
    iprop(MayWaits (thr d L) (none : HIx 1) O ∗ outSlot d L G A sm t ∗ outDone d L G t ∗ ow d L O W)
      ⊢ iprop((iprop(hold d L A (fun _ => True) ∗ semVal (thr d L, .dma sm) 0 ∗ outDone d L G (t + 1) ∗ ow d L O W)
          -∗ wp frame (wpE (defs₀ (F := F)) 𝒱₀ (thr d L) none) Set.univ k Q)
        -∗ wp frame (wpE (defs₀ (F := F)) 𝒱₀ (thr d L) none) Set.univ
          (if h : c = 1#1 then
            Prog.lift (.waitDma2 sm A (oW.slice (Rect.unit (s := S26214400) off S32768.size hinb) hst) h1 h2) >>= fun _ => k
          else k) Q) := by
  by_cases h : c = 1#1
  · rw [dif_pos h]
    obtain ⟨m, rfl⟩ : ∃ m, t = m + 2 := ⟨t - 2, by have := hc.mp h; omega⟩
    rw [show outSlot d L G A sm (m + 2) = fout d L G A sm (c0 L + m) from rfl]
    iintro ⟨Hmw, Hf, Hd, HO⟩ Hk
    iapply (out_wait d L (G := G) (C := c0 L + m)) $$ [Hmw Hf HO]
    · isplitl [Hmw]; · iexact Hmw
      isplitl [Hf]; · iexact Hf
      iexact HO
    iintro ⟨HP, HA, Hs, HO⟩
    iapply Hk
    isplitl [HA]; · iexact HA
    isplitl [Hs]; · iexact Hs
    ihave Hd' := (outDone_put d L G m) $$ [Hd HP]
    · isplitl [Hd]
      · iexact Hd
      · iexact HP
    isplitl [Hd']
    · iexact Hd'
    · iexact HO
  · rw [dif_neg h]
    have ht : t < 2 := by
      by_contra h'
      exact h (hc.mpr (by omega))
    have e : (outSlot d L G A sm t : sProp 𝕄) = iprop(hold d L A (fun _ => True) ∗ semVal (thr d L, .dma sm) 0) := by
      match t, ht with
      | 0, _ => rfl
      | 1, _ => rfl
    rw [e, outDone_low d L G t ht]
    iintro ⟨-, ⟨HA, Hs⟩, Hd, HO⟩ Hk
    iapply Hk
    isplitl [HA]; · iexact HA
    isplitl [Hs]; · iexact Hs
    isplitl [Hd]; · iexact Hd
    iexact HO

end State

end Cert.Proof.Hp

end
-- ==== Proof.Rows0.lean ====
/-
  An even chunk's group of sixteen rows, part by part as the program cuts it: the two gathers of the block's words,
  then the thirty-two columns, each a gather from the table and a scatter into the block's output rows.
-/
module

public import proofs.«01_k».proof.Proof.Group

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Part0

variable (d : Dev nD) (L : grid0.Coords)
variable (arg2 : Memref sig .scVector .hbm S22118400 .f32) (harg2 : arg2.IsWhole) (arg3 : Memref sig .scVector .hbm S320 .f32) (harg3 : arg3.IsWhole)
  (arg4 : Memref sig .scVector .hbm S26214400 .f32) (harg4 : arg4.IsWhole) (arg5 : Memref sig .scVector .vmem S320 .f32) (harg5 : arg5.IsWhole)
  (arg6 : Memref sig .scVector .vmem S27648 .f32) (harg6 : arg6.IsWhole) (arg7 : Memref sig .scVector .vmem S27648 .f32) (harg7 : arg7.IsWhole)
  (arg8 : Memref sig .scVector .vmem S32768 .f32) (harg8 : arg8.IsWhole) (arg9 : Memref sig .scVector .vmem S32768 .f32) (harg9 : arg9.IsWhole)
  (arg10 arg11 arg12 arg13 v17_r0 : DmaSems sig S_)
variable (tb : S320.Idx → F .f32) (b : S27648.Idx → F .f32) (k0_t1 : Fin k0_t1_loop.trips) (k0_h1 : k0_cond1 k0_t1 = 1#1)

/-- The group's two gathers. -/
theorem part1_step (k0_t2 : Fin k0_t2_loop.trips) (hg : k0_t2.val < 64)
    {Q : (Σ' (arg15 : BitVec 32) (v62 : Vec F S16 .f32) (v68 : Vec F S16 .f32) (v99 : IVec S16 32), FVec F S16 .f32) → sProp 𝕄} :
    hold d L arg6 (· = b) ⊢ iprop((hold d L arg6 (· = b)
        -∗ Q ⟨Scf.iv 0#32 1#32 k0_t2, gnum b k0_t2.val, gden b k0_t2.val, k0_pay21 (gnum b k0_t2.val) (gden b k0_t2.val), k0_pay22 (gden b k0_t2.val)⟩)
      -∗ wp frame (wpE (defs₀ (F := F)) 𝒱₀ (thr d L) none) Set.univ
          (k0_part1 L arg2 harg2 arg3 harg3 arg4 harg4 arg5 harg5 arg6 harg6 arg7 harg7 arg8 harg8 arg9 harg9 arg10 arg11 arg12 arg13 v17_r0 k0_pay1 k0_t1 k0_h1 0#32 1#32 k0_t2) Q) := by
  have e1 : ∀ x, (k0_pay19 k0_pay1 0#32 1#32 k0_t2 x).toNat = 27 * (16 * k0_t2.val + (x 0).val) + 10 := num_word k0_t2.val hg
  have e2 : ∀ x, (k0_pay20 k0_pay1 0#32 1#32 k0_t2 x).toNat = 27 * (16 * k0_t2.val + (x 0).val) + 11 := den_word k0_t2.val hg
  rw [k0_part1_eq_skeleton]; unfold k0_part1_skel
  unfold gnum gden
  iintro H Hk
  iapply (look_step d L (i1 := k0_pay19 k0_pay1 0#32 1#32 k0_t2) (h1 := fun hw => k0_idx1_inb k0_t1 _ hw k0_h1) (fun n => 27 * (16 * k0_t2.val + n) + 10)
    (fun n hn => by omega) e1 (fun h _ => h)) $$ H
  iintro H
  iapply (look_step d L (i1 := k0_pay20 k0_pay1 0#32 1#32 k0_t2) (h1 := fun hw => k0_idx2_inb k0_t1 _ hw k0_h1) (fun n => 27 * (16 * k0_t2.val + n) + 11)
    (fun n hn => by omega) e2 (fun h _ => h)) $$ H
  iintro H
  rw [Prog.pure_eq_ret, wp_ret]
  imodintro
  iapply Hk
  iexact H

/-- Columns 0 to 3. -/
theorem part2_step {g : ℕ} {W : ℕ → F .f32} (arg15 : BitVec 32) (v62 v68 : Vec F S16 .f32) (v99 : IVec S16 32) (v101 : FVec F S16 .f32)
    (hG : GroupOk W tb g (k0_pay23 v62 v68 v99 v101) (k0_pay24 k0_pay2 arg15)) {Q : (Σ' (v114 : IVec S16 32) (v117 : IVec S16 32), BitVec 32) → sProp 𝕄} :
    iprop(hold d L arg5 (· = tb) ∗ hold d L arg8 (OutOk W g 0)) ⊢ iprop((iprop(hold d L arg5 (· = tb) ∗ hold d L arg8 (OutOk W g 4))
        -∗ Q ⟨k0_pay23 v62 v68 v99 v101, k0_pay24 k0_pay2 arg15, 40#32⟩)
      -∗ wp frame (wpE (defs₀ (F := F)) 𝒱₀ (thr d L) none) Set.univ
          (k0_part2 L arg2 harg2 arg3 harg3 arg4 harg4 arg5 harg5 arg6 harg6 arg7 harg7 arg8 harg8 arg9 harg9 arg10 arg11 arg12 arg13 v17_r0 k0_pay2 k0_t1 k0_h1 arg15 v62 v68 v99 v101) Q) := by
  rw [k0_part2_eq_skeleton]; unfold k0_part2_skel
  iintro H Hk
  iapply (col_step d L (i1 := k0_pay25 v62 v68 v99 v101) (i2 := k0_pay26 k0_pay2 arg15) (h1 := fun hw => k0_idx3_inb k0_t1 _ hw k0_h1) (h2 := fun hw => k0_idx4_inb k0_t1 _ hw k0_h1)
    hG 0 (by omega) rfl rfl (fun h _ => h) (fun h _ => h)) $$ H
  iintro H
  iapply (col_step d L (i1 := k0_pay27 v62 v68 v99 v101) (i2 := k0_pay28 k0_pay2 arg15) (h1 := fun hw => k0_idx5_inb k0_t1 _ hw k0_h1) (h2 := fun hw => k0_idx6_inb k0_t1 _ hw k0_h1)
    hG 1 (by omega) rfl rfl (fun h _ => h) (fun h _ => h)) $$ H
  iintro H
  iapply (col_step d L (i1 := k0_pay29 v62 v68 v99 v101) (i2 := k0_pay30 k0_pay2 arg15) (h1 := fun hw => k0_idx7_inb k0_t1 _ hw k0_h1) (h2 := fun hw => k0_idx8_inb k0_t1 _ hw k0_h1)
    hG 2 (by omega) rfl rfl (fun h _ => h) (fun h _ => h)) $$ H
  iintro H
  iapply (col_step d L (i1 := k0_pay31 v62 v68 v99 v101) (i2 := k0_pay32 k0_pay2 arg15) (h1 := fun hw => k0_idx9_inb k0_t1 _ hw k0_h1) (h2 := fun hw => k0_idx10_inb k0_t1 _ hw k0_h1)
    hG 3 (by omega) rfl rfl (fun h _ => h) (fun h _ => h)) $$ H
  iintro H
  rw [Prog.pure_eq_ret, wp_ret]
  imodintro
  iapply Hk
  iexact H

/-- Columns 4 to 9. -/
theorem part3_step {g : ℕ} {W : ℕ → F .f32} (v114 v117 : IVec S16 32) (hG : GroupOk W tb g v114 v117) {Q : BitVec 32 → sProp 𝕄} :
    iprop(hold d L arg5 (· = tb) ∗ hold d L arg8 (OutOk W g 4)) ⊢ iprop((iprop(hold d L arg5 (· = tb) ∗ hold d L arg8 (OutOk W g 10))
        -∗ Q 100#32)
      -∗ wp frame (wpE (defs₀ (F := F)) 𝒱₀ (thr d L) none) Set.univ
          (k0_part3 L arg2 harg2 arg3 harg3 arg4 harg4 arg5 harg5 arg6 harg6 arg7 harg7 arg8 harg8 arg9 harg9 arg10 arg11 arg12 arg13 v17_r0 k0_t1 k0_h1 v114 v117 40#32) Q) := by
  rw [k0_part3_eq_skeleton]; unfold k0_part3_skel
  iintro H Hk
  iapply (col_step d L (i1 := k0_pay33 v114 40#32) (i2 := k0_pay34 v117) (h1 := fun hw => k0_idx11_inb k0_t1 _ hw k0_h1) (h2 := fun hw => k0_idx12_inb k0_t1 _ hw k0_h1)
    hG 4 (by omega) rfl rfl (fun h _ => h) (fun h _ => h)) $$ H
  iintro H
  iapply (col_step d L (i1 := k0_pay35 v114) (i2 := k0_pay36 v117) (h1 := fun hw => k0_idx13_inb k0_t1 _ hw k0_h1) (h2 := fun hw => k0_idx14_inb k0_t1 _ hw k0_h1)
    hG 5 (by omega) rfl rfl (fun h _ => h) (fun h _ => h)) $$ H
  iintro H
  iapply (col_step d L (i1 := k0_pay37 v114) (i2 := k0_pay38 v117) (h1 := fun hw => k0_idx15_inb k0_t1 _ hw k0_h1) (h2 := fun hw => k0_idx16_inb k0_t1 _ hw k0_h1)
    hG 6 (by omega) rfl rfl (fun h _ => h) (fun h _ => h)) $$ H
  iintro H
  iapply (col_step d L (i1 := k0_pay39 v114) (i2 := k0_pay40 v117) (h1 := fun hw => k0_idx17_inb k0_t1 _ hw k0_h1) (h2 := fun hw => k0_idx18_inb k0_t1 _ hw k0_h1)
    hG 7 (by omega) rfl rfl (fun h _ => h) (fun h _ => h)) $$ H
  iintro H
  iapply (col_step d L (i1 := k0_pay41 v114) (i2 := k0_pay42 v117) (h1 := fun hw => k0_idx19_inb k0_t1 _ hw k0_h1) (h2 := fun hw => k0_idx20_inb k0_t1 _ hw k0_h1)
    hG 8 (by omega) rfl rfl (fun h _ => h) (fun h _ => h)) $$ H
  iintro H
  iapply (col_step d L (i1 := k0_pay43 v114) (i2 := k0_pay44 v117) (h1 := fun hw => k0_idx21_inb k0_t1 _ hw k0_h1) (h2 := fun hw => k0_idx22_inb k0_t1 _ hw k0_h1)
    hG 9 (by omega) rfl rfl (fun h _ => h) (fun h _ => h)) $$ H
  iintro H
  rw [Prog.pure_eq_ret, wp_ret]
  imodintro
  iapply Hk
  iexact H

/-- Columns 10 to 15. -/
theorem part4_step {g : ℕ} {W : ℕ → F .f32} (v114 v117 : IVec S16 32) (hG : GroupOk W tb g v114 v117) {Q : BitVec 32 → sProp 𝕄} :
    iprop(hold d L arg5 (· = tb) ∗ hold d L arg8 (OutOk W g 10)) ⊢ iprop((iprop(hold d L arg5 (· = tb) ∗ hold d L arg8 (OutOk W g 16))
        -∗ Q 160#32)
      -∗ wp frame (wpE (defs₀ (F := F)) 𝒱₀ (thr d L) none) Set.univ
          (k0_part4 L arg2 harg2 arg3 harg3 arg4 harg4 arg5 harg5 arg6 harg6 arg7 harg7 arg8 harg8 arg9 harg9 arg10 arg11 arg12 arg13 v17_r0 k0_t1 k0_h1 v114 v117 100#32) Q) := by
  rw [k0_part4_eq_skeleton]; unfold k0_part4_skel
  iintro H Hk
  iapply (col_step d L (i1 := k0_pay45 v114 100#32) (i2 := k0_pay46 v117) (h1 := fun hw => k0_idx23_inb k0_t1 _ hw k0_h1) (h2 := fun hw => k0_idx24_inb k0_t1 _ hw k0_h1)
    hG 10 (by omega) rfl rfl (fun h _ => h) (fun h _ => h)) $$ H
  iintro H
  iapply (col_step d L (i1 := k0_pay47 v114) (i2 := k0_pay48 v117) (h1 := fun hw => k0_idx25_inb k0_t1 _ hw k0_h1) (h2 := fun hw => k0_idx26_inb k0_t1 _ hw k0_h1)
    hG 11 (by omega) rfl rfl (fun h _ => h) (fun h _ => h)) $$ H
  iintro H
  iapply (col_step d L (i1 := k0_pay49 v114) (i2 := k0_pay50 v117) (h1 := fun hw => k0_idx27_inb k0_t1 _ hw k0_h1) (h2 := fun hw => k0_idx28_inb k0_t1 _ hw k0_h1)
    hG 12 (by omega) rfl rfl (fun h _ => h) (fun h _ => h)) $$ H
  iintro H
  iapply (col_step d L (i1 := k0_pay51 v114) (i2 := k0_pay52 v117) (h1 := fun hw => k0_idx29_inb k0_t1 _ hw k0_h1) (h2 := fun hw => k0_idx30_inb k0_t1 _ hw k0_h1)
    hG 13 (by omega) rfl rfl (fun h _ => h) (fun h _ => h)) $$ H
  iintro H
  iapply (col_step d L (i1 := k0_pay53 v114) (i2 := k0_pay54 v117) (h1 := fun hw => k0_idx31_inb k0_t1 _ hw k0_h1) (h2 := fun hw => k0_idx32_inb k0_t1 _ hw k0_h1)
    hG 14 (by omega) rfl rfl (fun h _ => h) (fun h _ => h)) $$ H
  iintro H
  iapply (col_step d L (i1 := k0_pay55 v114) (i2 := k0_pay56 v117) (h1 := fun hw => k0_idx33_inb k0_t1 _ hw k0_h1) (h2 := fun hw => k0_idx34_inb k0_t1 _ hw k0_h1)
    hG 15 (by omega) rfl rfl (fun h _ => h) (fun h _ => h)) $$ H
  iintro H
  rw [Prog.pure_eq_ret, wp_ret]
  imodintro
  iapply Hk
  iexact H

/-- Columns 16 to 21. -/
theorem part5_step {g : ℕ} {W : ℕ → F .f32} (v114 v117 : IVec S16 32) (hG : GroupOk W tb g v114 v117) {Q : BitVec 32 → sProp 𝕄} :
    iprop(hold d L arg5 (· = tb) ∗ hold d L arg8 (OutOk W g 16)) ⊢ iprop((iprop(hold d L arg5 (· = tb) ∗ hold d L arg8 (OutOk W g 22))
        -∗ Q 220#32)
      -∗ wp frame (wpE (defs₀ (F := F)) 𝒱₀ (thr d L) none) Set.univ
          (k0_part5 L arg2 harg2 arg3 harg3 arg4 harg4 arg5 harg5 arg6 harg6 arg7 harg7 arg8 harg8 arg9 harg9 arg10 arg11 arg12 arg13 v17_r0 k0_t1 k0_h1 v114 v117 160#32) Q) := by
  rw [k0_part5_eq_skeleton]; unfold k0_part5_skel
  iintro H Hk
  iapply (col_step d L (i1 := k0_pay57 v114 160#32) (i2 := k0_pay58 v117) (h1 := fun hw => k0_idx35_inb k0_t1 _ hw k0_h1) (h2 := fun hw => k0_idx36_inb k0_t1 _ hw k0_h1)
    hG 16 (by omega) rfl rfl (fun h _ => h) (fun h _ => h)) $$ H
  iintro H
  iapply (col_step d L (i1 := k0_pay59 v114) (i2 := k0_pay60 v117) (h1 := fun hw => k0_idx37_inb k0_t1 _ hw k0_h1) (h2 := fun hw => k0_idx38_inb k0_t1 _ hw k0_h1)
    hG 17 (by omega) rfl rfl (fun h _ => h) (fun h _ => h)) $$ H
  iintro H
  iapply (col_step d L (i1 := k0_pay61 v114) (i2 := k0_pay62 v117) (h1 := fun hw => k0_idx39_inb k0_t1 _ hw k0_h1) (h2 := fun hw => k0_idx40_inb k0_t1 _ hw k0_h1)
    hG 18 (by omega) rfl rfl (fun h _ => h) (fun h _ => h)) $$ H
  iintro H
  iapply (col_step d L (i1 := k0_pay63 v114) (i2 := k0_pay64 v117) (h1 := fun hw => k0_idx41_inb k0_t1 _ hw k0_h1) (h2 := fun hw => k0_idx42_inb k0_t1 _ hw k0_h1)
    hG 19 (by omega) rfl rfl (fun h _ => h) (fun h _ => h)) $$ H
  iintro H
  iapply (col_step d L (i1 := k0_pay65 v114) (i2 := k0_pay66 v117) (h1 := fun hw => k0_idx43_inb k0_t1 _ hw k0_h1) (h2 := fun hw => k0_idx44_inb k0_t1 _ hw k0_h1)
    hG 20 (by omega) rfl rfl (fun h _ => h) (fun h _ => h)) $$ H
  iintro H
  iapply (col_step d L (i1 := k0_pay67 v114) (i2 := k0_pay68 v117) (h1 := fun hw => k0_idx45_inb k0_t1 _ hw k0_h1) (h2 := fun hw => k0_idx46_inb k0_t1 _ hw k0_h1)
    hG 21 (by omega) rfl rfl (fun h _ => h) (fun h _ => h)) $$ H
  iintro H
  rw [Prog.pure_eq_ret, wp_ret]
  imodintro
  iapply Hk
  iexact H

/-- Columns 22 to 27. -/
theorem part6_step {g : ℕ} {W : ℕ → F .f32} (v114 v117 : IVec S16 32) (hG : GroupOk W tb g v114 v117) {Q : BitVec 32 → sProp 𝕄} :
    iprop(hold d L arg5 (· = tb) ∗ hold d L arg8 (OutOk W g 22)) ⊢ iprop((iprop(hold d L arg5 (· = tb) ∗ hold d L arg8 (OutOk W g 28))
        -∗ Q 280#32)
      -∗ wp frame (wpE (defs₀ (F := F)) 𝒱₀ (thr d L) none) Set.univ
          (k0_part6 L arg2 harg2 arg3 harg3 arg4 harg4 arg5 harg5 arg6 harg6 arg7 harg7 arg8 harg8 arg9 harg9 arg10 arg11 arg12 arg13 v17_r0 k0_t1 k0_h1 v114 v117 220#32) Q) := by
  rw [k0_part6_eq_skeleton]; unfold k0_part6_skel
  iintro H Hk
  iapply (col_step d L (i1 := k0_pay69 v114 220#32) (i2 := k0_pay70 v117) (h1 := fun hw => k0_idx47_inb k0_t1 _ hw k0_h1) (h2 := fun hw => k0_idx48_inb k0_t1 _ hw k0_h1)
    hG 22 (by omega) rfl rfl (fun h _ => h) (fun h _ => h)) $$ H
  iintro H
  iapply (col_step d L (i1 := k0_pay71 v114) (i2 := k0_pay72 v117) (h1 := fun hw => k0_idx49_inb k0_t1 _ hw k0_h1) (h2 := fun hw => k0_idx50_inb k0_t1 _ hw k0_h1)
    hG 23 (by omega) rfl rfl (fun h _ => h) (fun h _ => h)) $$ H
  iintro H
  iapply (col_step d L (i1 := k0_pay73 v114) (i2 := k0_pay74 v117) (h1 := fun hw => k0_idx51_inb k0_t1 _ hw k0_h1) (h2 := fun hw => k0_idx52_inb k0_t1 _ hw k0_h1)
    hG 24 (by omega) rfl rfl (fun h _ => h) (fun h _ => h)) $$ H
  iintro H
  iapply (col_step d L (i1 := k0_pay75 v114) (i2 := k0_pay76 v117) (h1 := fun hw => k0_idx53_inb k0_t1 _ hw k0_h1) (h2 := fun hw => k0_idx54_inb k0_t1 _ hw k0_h1)
    hG 25 (by omega) rfl rfl (fun h _ => h) (fun h _ => h)) $$ H
  iintro H
  iapply (col_step d L (i1 := k0_pay77 v114) (i2 := k0_pay78 v117) (h1 := fun hw => k0_idx55_inb k0_t1 _ hw k0_h1) (h2 := fun hw => k0_idx56_inb k0_t1 _ hw k0_h1)
    hG 26 (by omega) rfl rfl (fun h _ => h) (fun h _ => h)) $$ H
  iintro H
  iapply (col_step d L (i1 := k0_pay79 v114) (i2 := k0_pay80 v117) (h1 := fun hw => k0_idx57_inb k0_t1 _ hw k0_h1) (h2 := fun hw => k0_idx58_inb k0_t1 _ hw k0_h1)
    hG 27 (by omega) rfl rfl (fun h _ => h) (fun h _ => h)) $$ H
  iintro H
  rw [Prog.pure_eq_ret, wp_ret]
  imodintro
  iapply Hk
  iexact H

/-- One group: its rows' words, over the groups before it. -/
theorem grp0_step (k0_t2 : Fin k0_t2_loop.trips) (hg : k0_t2.val < 64) (u : Unit) {Q : Unit → sProp 𝕄} :
    iprop(hold d L arg6 (· = b) ∗ hold d L arg5 (· = tb) ∗ hold d L arg8 (OutOk (cell tb b) k0_t2.val 0)) ⊢ iprop(
      (iprop(hold d L arg6 (· = b) ∗ hold d L arg5 (· = tb) ∗ hold d L arg8 (OutOk (cell tb b) (k0_t2.val + 1) 0)) -∗ Q ⟨⟩)
      -∗ wp frame (wpE (defs₀ (F := F)) 𝒱₀ (thr d L) none) Set.univ
          (k0_t2_body L arg2 harg2 arg3 harg3 arg4 harg4 arg5 harg5 arg6 harg6 arg7 harg7 arg8 harg8 arg9 harg9 arg10 arg11 arg12 arg13 v17_r0 k0_t1 k0_h1 k0_t2 u) Q) := by
  have hG : GroupOk (cell tb b) tb k0_t2.val
      (k0_pay23 (gnum b k0_t2.val) (gden b k0_t2.val) (k0_pay21 (gnum b k0_t2.val) (gden b k0_t2.val)) (k0_pay22 (gden b k0_t2.val)))
      (k0_pay24 k0_pay2 (Scf.iv 0#32 1#32 k0_t2)) :=
    groupOk tb b k0_t2.val hg _ _ (pay_bin _ _) (base_word k0_t2.val hg)
  unfold k0_t2_body
  rw [wp_bind]
  iintro ⟨Hb, Ht, Ho⟩ Hk
  iapply (part1_step d L arg2 harg2 arg3 harg3 arg4 harg4 arg5 harg5 arg6 harg6 arg7 harg7 arg8 harg8 arg9 harg9 arg10 arg11 arg12 arg13 v17_r0 b k0_t1 k0_h1 k0_t2 hg) $$ Hb
  iintro Hb
  rw [wp_bind]
  ihave H : iprop(hold d L arg5 (· = tb) ∗ hold d L arg8 (OutOk (cell tb b) k0_t2.val 0)) $$ [Ht Ho]
  · isplitl [Ht]
    · iexact Ht
    · iexact Ho
  iapply (part2_step d L arg2 harg2 arg3 harg3 arg4 harg4 arg5 harg5 arg6 harg6 arg7 harg7 arg8 harg8 arg9 harg9 arg10 arg11 arg12 arg13 v17_r0 tb k0_t1 k0_h1 _ _ _ _ _ hG) $$ H
  iintro H
  rw [wp_bind]
  iapply (part3_step d L arg2 harg2 arg3 harg3 arg4 harg4 arg5 harg5 arg6 harg6 arg7 harg7 arg8 harg8 arg9 harg9 arg10 arg11 arg12 arg13 v17_r0 tb k0_t1 k0_h1 _ _ hG) $$ H
  iintro H
  rw [wp_bind]
  iapply (part4_step d L arg2 harg2 arg3 harg3 arg4 harg4 arg5 harg5 arg6 harg6 arg7 harg7 arg8 harg8 arg9 harg9 arg10 arg11 arg12 arg13 v17_r0 tb k0_t1 k0_h1 _ _ hG) $$ H
  iintro H
  rw [wp_bind]
  iapply (part5_step d L arg2 harg2 arg3 harg3 arg4 harg4 arg5 harg5 arg6 harg6 arg7 harg7 arg8 harg8 arg9 harg9 arg10 arg11 arg12 arg13 v17_r0 tb k0_t1 k0_h1 _ _ hG) $$ H
  iintro H
  rw [wp_bind]
  iapply (part6_step d L arg2 harg2 arg3 harg3 arg4 harg4 arg5 harg5 arg6 harg6 arg7 harg7 arg8 harg8 arg9 harg9 arg10 arg11 arg12 arg13 v17_r0 tb k0_t1 k0_h1 _ _ hG) $$ H
  iintro H
  iapply (col_step d L (i1 := k0_pay3 _ 280#32) (i2 := k0_pay4 _) (h1 := fun hw => k0_idx59_inb k0_t1 _ hw k0_h1) (h2 := fun hw => k0_idx60_inb k0_t1 _ hw k0_h1)
    hG 28 (by omega) rfl rfl (fun h _ => h) (fun h _ => h)) $$ H
  iintro H
  iapply (col_step d L (i1 := k0_pay5 _) (i2 := k0_pay6 _) (h1 := fun hw => k0_idx61_inb k0_t1 _ hw k0_h1) (h2 := fun hw => k0_idx62_inb k0_t1 _ hw k0_h1)
    hG 29 (by omega) rfl rfl (fun h _ => h) (fun h _ => h)) $$ H
  iintro H
  iapply (col_step d L (i1 := k0_pay7 _) (i2 := k0_pay8 _) (h1 := fun hw => k0_idx63_inb k0_t1 _ hw k0_h1) (h2 := fun hw => k0_idx64_inb k0_t1 _ hw k0_h1)
    hG 30 (by omega) rfl rfl (fun h _ => h) (fun h _ => h)) $$ H
  iintro H
  iapply (col_step d L (i1 := k0_pay9 _) (i2 := k0_pay10 _) (h1 := fun hw => k0_idx65_inb k0_t1 _ hw k0_h1) (h2 := fun hw => k0_idx66_inb k0_t1 _ hw k0_h1)
    hG 31 (by omega) rfl rfl (fun h _ => h) (fun h _ => h)) $$ H
  iintro H
  rw [Prog.pure_eq_ret, wp_ret]
  imodintro
  iapply Hk
  icases H with ⟨Ht, Ho⟩
  isplitl [Hb]; · iexact Hb
  isplitl [Ht]; · iexact Ht
  unfold hold
  icases Ho with ⟨%f, %hf, Ho⟩
  iexists f
  isplitr
  · ipureintro; exact hf.next
  · iexact Ho

end Part0

end Cert.Proof.Hp

end
-- ==== Proof.Half0.lean ====
/-
  An even chunk at one tile: its words awaited, the next chunk's started, its rows computed group by group and started on their way out.
-/
module

public import proofs.«01_k».proof.Proof.Trip
public import proofs.«01_k».proof.Proof.Rows0

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

section Half0

variable (d : Dev nD) (L : grid0.Coords) (q : PosShare TreeShare) (X : S22118400.Idx → F .f32) (tb : S320.Idx → F .f32)
  (O : CellTallies nD τ sig (HIx 1)) (W : Waits sig (HIx 1))
variable (hx : (xW).IsWhole) (hw : (wW).IsWhole) (ho : (oW).IsWhole) (arg5 : Memref sig .scVector .vmem S320 .f32) (harg5 : arg5.IsWhole)
  (arg6 : Memref sig .scVector .vmem S27648 .f32) (harg6 : arg6.IsWhole) (arg7 : Memref sig .scVector .vmem S27648 .f32) (harg7 : arg7.IsWhole)
  (arg8 : Memref sig .scVector .vmem S32768 .f32) (harg8 : arg8.IsWhole) (arg9 : Memref sig .scVector .vmem S32768 .f32) (harg9 : arg9.IsWhole)
  (arg10 arg11 arg12 arg13 v17_r0 : DmaSems sig S_)

/-- The chunk's groups, all sixty-four. -/
theorem rows0 (k0_t1 : Fin k0_t1_loop.trips) (k0_h1 : k0_cond1 k0_t1 = 1#1) (b : S27648.Idx → F .f32) {Q : Unit → sProp 𝕄} :
    iprop(hold d L arg6 (· = b) ∗ hold d L arg5 (· = tb) ∗ hold d L arg8 (fun _ => True))
      ⊢ iprop((iprop(hold d L arg6 (· = b) ∗ hold d L arg5 (· = tb) ∗ hold d L arg8 (OutOk (cell tb b) 64 0)) -∗ Q ⟨⟩)
        -∗ wp frame (wpE (defs₀ (F := F)) 𝒱₀ (thr d L) none) Set.univ
          (Scf.Loop.for k0_t2_loop (k0_t2_ok k0_t1 k0_h1) ⟨⟩ (k0_t2_body L xW hx wW hw oW ho arg5 harg5 arg6 harg6 arg7 harg7 arg8 harg8 arg9 harg9 arg10 arg11 arg12 arg13 v17_r0 k0_t1 k0_h1)) Q) := by
  iintro ⟨Hb, Ht, Ho⟩ Hk
  iapply (Scf.wp_for frame (wpE (defs₀ (F := F)) 𝒱₀ (thr d L) none) Set.univ _ _ _ _ _ _
    (fun k _ => iprop(hold d L arg6 (· = b) ∗ hold d L arg5 (· = tb) ∗ hold d L arg8 (OutOk (cell tb b) k 0))) ?region)
  case region =>
    intro k u
    iintro H
    iapply (grp0_step d L xW hx wW hw oW ho arg5 harg5 arg6 harg6 arg7 harg7 arg8 harg8 arg9 harg9 arg10 arg11 arg12 arg13 v17_r0 tb b k0_t1 k0_h1 k (lt_of_lt_of_eq k.isLt trips64) u) $$ H
    iintro H
    iexact H
  isplitr [Hk]
  · isplitl [Hb]; · iexact Hb
    isplitl [Ht]; · iexact Ht
    iapply (hold_mono d L arg8 (P' := OutOk (cell tb b) 0 0) (fun f _ j hj => absurd hj (by omega))) $$ Ho
  · iintro %u H
    iapply Hk
    rw [show Scf.trips k0_t2_loop.lb k0_t2_loop.ub k0_t2_loop.st = 64 from trips64]
    iexact H

/-- One trip on an even chunk. -/
theorem trip0 (k0_t1 : Fin k0_t1_loop.trips) (hpar : k0_t1.val % 2 = 0) (u : Unit) :
    between d L q X (outAll tb X) tb O W arg5 arg6 arg10.sem arg8 arg12.sem arg7 arg11.sem arg9 arg13.sem k0_t1.val
      ⊢ wp frame (wpE (defs₀ (F := F)) 𝒱₀ (thr d L) none) Set.univ (k0_t1_body L xW hx wW hw oW ho arg5 harg5 arg6 harg6 arg7 harg7 arg8 harg8 arg9 harg9 arg10 arg11 arg12 arg13 v17_r0 k0_t1 u)
          fun _ => between d L q X (outAll tb X) tb O W arg5 arg7 arg11.sem arg9 arg13.sem arg6 arg10.sem arg8 arg12.sem (k0_t1.val + 1) := by
  have ht : k0_t1.val < 25 := lt_of_lt_of_eq k0_t1.isLt trips25
  have hC := c0_le L
  have h1 : k0_cond1 k0_t1 = 1#1 := (cond1_iff k0_t1).mpr hpar
  have h4 : ¬ k0_cond4 k0_t1 = 1#1 := fun h => by have := (cond4_iff k0_t1).mp h; omega
  unfold k0_t1_body between
  dsimp only
  simp only [dif_pos h1, dif_neg h4]
  rw [show inSlot d L q X arg6 arg10.sem k0_t1.val = fin d L q X arg6 arg10.sem (c0 L + k0_t1.val) from if_pos ht]
  iintro ⟨#Hmw, Htb, Hin, ⟨Hb1, Hs1⟩, Ho0, Ho1, Hdone, Htodo, HO⟩
  iapply (in_wait d L) $$ [Hin HO]
  · isplitr; · iexact Hmw
    isplitl [Hin]; · iexact Hin
    iexact HO
  iintro ⟨Hb0, HX, Hs0, HO⟩
  iapply (next_step d L q X k0_t1.val (cond2_iff k0_t1) (off2_c0 L k0_t1)) $$ [Hb1 HX Hs1]
  · isplitl [Hb1]; · iexact Hb1
    isplitl [HX]; · iexact HX
    iexact Hs1
  iintro Hin
  iapply (back_step d L (outAll tb X) k0_t1.val (cond3_iff k0_t1)) $$ [Ho0 Hdone HO]
  · isplitr; · iexact Hmw
    isplitl [Ho0]; · iexact Ho0
    isplitl [Hdone]; · iexact Hdone
    iexact HO
  iintro ⟨Ha0, Hz0, Hdone, HO⟩
  rw [wp_bind]
  iapply (rows0 d L tb hx hw ho arg5 harg5 arg6 harg6 arg7 harg7 arg8 harg8 arg9 harg9 arg10 arg11 arg12 arg13 v17_r0 k0_t1 h1) $$ [Hb0 Htb Ha0]
  · isplitl [Hb0]; · iexact Hb0
    isplitl [Htb]; · iexact Htb
    iexact Ha0
  iintro ⟨Hb0, Htb, Ha0⟩
  ihave Htodo' := (outTodo_take d L k0_t1.val ht) $$ Htodo
  icases Htodo' with ⟨HP, Htodo⟩
  iapply (out_start d L (G := outAll tb X) (c0 L + k0_t1.val) (off3_c0 L k0_t1)
    (fun j hj => cell_xin tb X (c0 L + k0_t1.val) (by omega) j hj)) $$ [Ha0 HP Hz0]
  · isplitl [Ha0]; · iexact Ha0
    isplitl [HP]; · iexact HP
    iexact Hz0
  iintro Hf
  rw [Prog.pure_eq_ret, wp_ret]
  imodintro
  isplitr; · iexact Hmw
  isplitl [Htb]; · iexact Htb
  isplitl [Hin]; · iexact Hin
  isplitl [Hb0 Hs0]
  · isplitl [Hb0]
    · iapply (hold_any d L arg6 _) $$ Hb0
    · iexact Hs0
  isplitl [Ho1]; · iexact Ho1
  isplitl [Hf]
  · rw [show outSlot d L (outAll tb X) arg8 arg12.sem (k0_t1.val + 1 + 1) = fout d L (outAll tb X) arg8 arg12.sem (c0 L + k0_t1.val) from rfl]
    iexact Hf
  isplitl [Hdone]; · iexact Hdone
  isplitl [Htodo]; · iexact Htodo
  iexact HO

end Half0

end Cert.Proof.Hp

end
-- ==== Proof.Rows1.lean ====
/-
  An odd chunk's group of sixteen rows, part by part as the program cuts it: the two gathers of the block's words,
  then the thirty-two columns, each a gather from the table and a scatter into the block's output rows.
-/
module

public import proofs.«01_k».proof.Proof.Group

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Part1

variable (d : Dev nD) (L : grid0.Coords)
variable (arg2 : Memref sig .scVector .hbm S22118400 .f32) (harg2 : arg2.IsWhole) (arg3 : Memref sig .scVector .hbm S320 .f32) (harg3 : arg3.IsWhole)
  (arg4 : Memref sig .scVector .hbm S26214400 .f32) (harg4 : arg4.IsWhole) (arg5 : Memref sig .scVector .vmem S320 .f32) (harg5 : arg5.IsWhole)
  (arg6 : Memref sig .scVector .vmem S27648 .f32) (harg6 : arg6.IsWhole) (arg7 : Memref sig .scVector .vmem S27648 .f32) (harg7 : arg7.IsWhole)
  (arg8 : Memref sig .scVector .vmem S32768 .f32) (harg8 : arg8.IsWhole) (arg9 : Memref sig .scVector .vmem S32768 .f32) (harg9 : arg9.IsWhole)
  (arg10 arg11 arg12 arg13 v17_r0 : DmaSems sig S_)
variable (tb : S320.Idx → F .f32) (b : S27648.Idx → F .f32) (k0_t1 : Fin k0_t1_loop.trips) (k0_h4 : k0_cond4 k0_t1 = 1#1)

/-- The group's two gathers. -/
theorem part7_step (k0_t3 : Fin k0_t3_loop.trips) (hg : k0_t3.val < 64)
    {Q : (Σ' (arg15 : BitVec 32) (v62 : Vec F S16 .f32) (v68 : Vec F S16 .f32) (v99 : IVec S16 32), FVec F S16 .f32) → sProp 𝕄} :
    hold d L arg7 (· = b) ⊢ iprop((hold d L arg7 (· = b)
        -∗ Q ⟨Scf.iv 0#32 1#32 k0_t3, gnum b k0_t3.val, gden b k0_t3.val, k0_pay83 (gnum b k0_t3.val) (gden b k0_t3.val), k0_pay84 (gden b k0_t3.val)⟩)
      -∗ wp frame (wpE (defs₀ (F := F)) 𝒱₀ (thr d L) none) Set.univ
          (k0_part7 L arg2 harg2 arg3 harg3 arg4 harg4 arg5 harg5 arg6 harg6 arg7 harg7 arg8 harg8 arg9 harg9 arg10 arg11 arg12 arg13 v17_r0 k0_pay1 k0_t1 k0_h4 0#32 1#32 k0_t3) Q) := by
  have e1 : ∀ x, (k0_pay81 k0_pay1 0#32 1#32 k0_t3 x).toNat = 27 * (16 * k0_t3.val + (x 0).val) + 10 := num_word k0_t3.val hg
  have e2 : ∀ x, (k0_pay82 k0_pay1 0#32 1#32 k0_t3 x).toNat = 27 * (16 * k0_t3.val + (x 0).val) + 11 := den_word k0_t3.val hg
  rw [k0_part7_eq_skeleton]; unfold k0_part7_skel
  unfold gnum gden
  iintro H Hk
  iapply (look_step d L (i1 := k0_pay81 k0_pay1 0#32 1#32 k0_t3) (h1 := fun hw => k0_idx67_inb k0_t1 _ hw k0_h4) (fun n => 27 * (16 * k0_t3.val + n) + 10)
    (fun n hn => by omega) e1 (fun h _ => h)) $$ H
  iintro H
  iapply (look_step d L (i1 := k0_pay82 k0_pay1 0#32 1#32 k0_t3) (h1 := fun hw => k0_idx68_inb k0_t1 _ hw k0_h4) (fun n => 27 * (16 * k0_t3.val + n) + 11)
    (fun n hn => by omega) e2 (fun h _ => h)) $$ H
  iintro H
  rw [Prog.pure_eq_ret, wp_ret]
  imodintro
  iapply Hk
  iexact H

/-- Columns 0 to 3. -/
theorem part8_step {g : ℕ} {W : ℕ → F .f32} (arg15 : BitVec 32) (v62 v68 : Vec F S16 .f32) (v99 : IVec S16 32) (v101 : FVec F S16 .f32)
    (hG : GroupOk W tb g (k0_pay85 v62 v68 v99 v101) (k0_pay86 k0_pay2 arg15)) {Q : (Σ' (v114 : IVec S16 32) (v117 : IVec S16 32), BitVec 32) → sProp 𝕄} :
    iprop(hold d L arg5 (· = tb) ∗ hold d L arg9 (OutOk W g 0)) ⊢ iprop((iprop(hold d L arg5 (· = tb) ∗ hold d L arg9 (OutOk W g 4))
        -∗ Q ⟨k0_pay85 v62 v68 v99 v101, k0_pay86 k0_pay2 arg15, 40#32⟩)
      -∗ wp frame (wpE (defs₀ (F := F)) 𝒱₀ (thr d L) none) Set.univ
          (k0_part8 L arg2 harg2 arg3 harg3 arg4 harg4 arg5 harg5 arg6 harg6 arg7 harg7 arg8 harg8 arg9 harg9 arg10 arg11 arg12 arg13 v17_r0 k0_pay2 k0_t1 k0_h4 arg15 v62 v68 v99 v101) Q) := by
  rw [k0_part8_eq_skeleton]; unfold k0_part8_skel
  iintro H Hk
  iapply (col_step d L (i1 := k0_pay87 v62 v68 v99 v101) (i2 := k0_pay88 k0_pay2 arg15) (h1 := fun hw => k0_idx69_inb k0_t1 _ hw k0_h4) (h2 := fun hw => k0_idx70_inb k0_t1 _ hw k0_h4)
    hG 0 (by omega) rfl rfl (fun h _ => h) (fun h _ => h)) $$ H
  iintro H
  iapply (col_step d L (i1 := k0_pay89 v62 v68 v99 v101) (i2 := k0_pay90 k0_pay2 arg15) (h1 := fun hw => k0_idx71_inb k0_t1 _ hw k0_h4) (h2 := fun hw => k0_idx72_inb k0_t1 _ hw k0_h4)
    hG 1 (by omega) rfl rfl (fun h _ => h) (fun h _ => h)) $$ H
  iintro H
  iapply (col_step d L (i1 := k0_pay91 v62 v68 v99 v101) (i2 := k0_pay92 k0_pay2 arg15) (h1 := fun hw => k0_idx73_inb k0_t1 _ hw k0_h4) (h2 := fun hw => k0_idx74_inb k0_t1 _ hw k0_h4)
    hG 2 (by omega) rfl rfl (fun h _ => h) (fun h _ => h)) $$ H
  iintro H
  iapply (col_step d L (i1 := k0_pay93 v62 v68 v99 v101) (i2 := k0_pay94 k0_pay2 arg15) (h1 := fun hw => k0_idx75_inb k0_t1 _ hw k0_h4) (h2 := fun hw => k0_idx76_inb k0_t1 _ hw k0_h4)
    hG 3 (by omega) rfl rfl (fun h _ => h) (fun h _ => h)) $$ H
  iintro H
  rw [Prog.pure_eq_ret, wp_ret]
  imodintro
  iapply Hk
  iexact H

/-- Columns 4 to 9. -/
theorem part9_step {g : ℕ} {W : ℕ → F .f32} (v114 v117 : IVec S16 32) (hG : GroupOk W tb g v114 v117) {Q : BitVec 32 → sProp 𝕄} :
    iprop(hold d L arg5 (· = tb) ∗ hold d L arg9 (OutOk W g 4)) ⊢ iprop((iprop(hold d L arg5 (· = tb) ∗ hold d L arg9 (OutOk W g 10))
        -∗ Q 100#32)
      -∗ wp frame (wpE (defs₀ (F := F)) 𝒱₀ (thr d L) none) Set.univ
          (k0_part9 L arg2 harg2 arg3 harg3 arg4 harg4 arg5 harg5 arg6 harg6 arg7 harg7 arg8 harg8 arg9 harg9 arg10 arg11 arg12 arg13 v17_r0 k0_t1 k0_h4 v114 v117 40#32) Q) := by
  rw [k0_part9_eq_skeleton]; unfold k0_part9_skel
  iintro H Hk
  iapply (col_step d L (i1 := k0_pay95 v114 40#32) (i2 := k0_pay96 v117) (h1 := fun hw => k0_idx77_inb k0_t1 _ hw k0_h4) (h2 := fun hw => k0_idx78_inb k0_t1 _ hw k0_h4)
    hG 4 (by omega) rfl rfl (fun h _ => h) (fun h _ => h)) $$ H
  iintro H
  iapply (col_step d L (i1 := k0_pay97 v114) (i2 := k0_pay98 v117) (h1 := fun hw => k0_idx79_inb k0_t1 _ hw k0_h4) (h2 := fun hw => k0_idx80_inb k0_t1 _ hw k0_h4)
    hG 5 (by omega) rfl rfl (fun h _ => h) (fun h _ => h)) $$ H
  iintro H
  iapply (col_step d L (i1 := k0_pay99 v114) (i2 := k0_pay100 v117) (h1 := fun hw => k0_idx81_inb k0_t1 _ hw k0_h4) (h2 := fun hw => k0_idx82_inb k0_t1 _ hw k0_h4)
    hG 6 (by omega) rfl rfl (fun h _ => h) (fun h _ => h)) $$ H
  iintro H
  iapply (col_step d L (i1 := k0_pay101 v114) (i2 := k0_pay102 v117) (h1 := fun hw => k0_idx83_inb k0_t1 _ hw k0_h4) (h2 := fun hw => k0_idx84_inb k0_t1 _ hw k0_h4)
    hG 7 (by omega) rfl rfl (fun h _ => h) (fun h _ => h)) $$ H
  iintro H
  iapply (col_step d L (i1 := k0_pay103 v114) (i2 := k0_pay104 v117) (h1 := fun hw => k0_idx85_inb k0_t1 _ hw k0_h4) (h2 := fun hw => k0_idx86_inb k0_t1 _ hw k0_h4)
    hG 8 (by omega) rfl rfl (fun h _ => h) (fun h _ => h)) $$ H
  iintro H
  iapply (col_step d L (i1 := k0_pay105 v114) (i2 := k0_pay106 v117) (h1 := fun hw => k0_idx87_inb k0_t1 _ hw k0_h4) (h2 := fun hw => k0_idx88_inb k0_t1 _ hw k0_h4)
    hG 9 (by omega) rfl rfl (fun h _ => h) (fun h _ => h)) $$ H
  iintro H
  rw [Prog.pure_eq_ret, wp_ret]
  imodintro
  iapply Hk
  iexact H

/-- Columns 10 to 15. -/
theorem part10_step {g : ℕ} {W : ℕ → F .f32} (v114 v117 : IVec S16 32) (hG : GroupOk W tb g v114 v117) {Q : BitVec 32 → sProp 𝕄} :
    iprop(hold d L arg5 (· = tb) ∗ hold d L arg9 (OutOk W g 10)) ⊢ iprop((iprop(hold d L arg5 (· = tb) ∗ hold d L arg9 (OutOk W g 16))
        -∗ Q 160#32)
      -∗ wp frame (wpE (defs₀ (F := F)) 𝒱₀ (thr d L) none) Set.univ
          (k0_part10 L arg2 harg2 arg3 harg3 arg4 harg4 arg5 harg5 arg6 harg6 arg7 harg7 arg8 harg8 arg9 harg9 arg10 arg11 arg12 arg13 v17_r0 k0_t1 k0_h4 v114 v117 100#32) Q) := by
  rw [k0_part10_eq_skeleton]; unfold k0_part10_skel
  iintro H Hk
  iapply (col_step d L (i1 := k0_pay107 v114 100#32) (i2 := k0_pay108 v117) (h1 := fun hw => k0_idx89_inb k0_t1 _ hw k0_h4) (h2 := fun hw => k0_idx90_inb k0_t1 _ hw k0_h4)
    hG 10 (by omega) rfl rfl (fun h _ => h) (fun h _ => h)) $$ H
  iintro H
  iapply (col_step d L (i1 := k0_pay109 v114) (i2 := k0_pay110 v117) (h1 := fun hw => k0_idx91_inb k0_t1 _ hw k0_h4) (h2 := fun hw => k0_idx92_inb k0_t1 _ hw k0_h4)
    hG 11 (by omega) rfl rfl (fun h _ => h) (fun h _ => h)) $$ H
  iintro H
  iapply (col_step d L (i1 := k0_pay111 v114) (i2 := k0_pay112 v117) (h1 := fun hw => k0_idx93_inb k0_t1 _ hw k0_h4) (h2 := fun hw => k0_idx94_inb k0_t1 _ hw k0_h4)
    hG 12 (by omega) rfl rfl (fun h _ => h) (fun h _ => h)) $$ H
  iintro H
  iapply (col_step d L (i1 := k0_pay113 v114) (i2 := k0_pay114 v117) (h1 := fun hw => k0_idx95_inb k0_t1 _ hw k0_h4) (h2 := fun hw => k0_idx96_inb k0_t1 _ hw k0_h4)
    hG 13 (by omega) rfl rfl (fun h _ => h) (fun h _ => h)) $$ H
  iintro H
  iapply (col_step d L (i1 := k0_pay115 v114) (i2 := k0_pay116 v117) (h1 := fun hw => k0_idx97_inb k0_t1 _ hw k0_h4) (h2 := fun hw => k0_idx98_inb k0_t1 _ hw k0_h4)
    hG 14 (by omega) rfl rfl (fun h _ => h) (fun h _ => h)) $$ H
  iintro H
  iapply (col_step d L (i1 := k0_pay117 v114) (i2 := k0_pay118 v117) (h1 := fun hw => k0_idx99_inb k0_t1 _ hw k0_h4) (h2 := fun hw => k0_idx100_inb k0_t1 _ hw k0_h4)
    hG 15 (by omega) rfl rfl (fun h _ => h) (fun h _ => h)) $$ H
  iintro H
  rw [Prog.pure_eq_ret, wp_ret]
  imodintro
  iapply Hk
  iexact H

/-- Columns 16 to 21. -/
theorem part11_step {g : ℕ} {W : ℕ → F .f32} (v114 v117 : IVec S16 32) (hG : GroupOk W tb g v114 v117) {Q : BitVec 32 → sProp 𝕄} :
    iprop(hold d L arg5 (· = tb) ∗ hold d L arg9 (OutOk W g 16)) ⊢ iprop((iprop(hold d L arg5 (· = tb) ∗ hold d L arg9 (OutOk W g 22))
        -∗ Q 220#32)
      -∗ wp frame (wpE (defs₀ (F := F)) 𝒱₀ (thr d L) none) Set.univ
          (k0_part11 L arg2 harg2 arg3 harg3 arg4 harg4 arg5 harg5 arg6 harg6 arg7 harg7 arg8 harg8 arg9 harg9 arg10 arg11 arg12 arg13 v17_r0 k0_t1 k0_h4 v114 v117 160#32) Q) := by
  rw [k0_part11_eq_skeleton]; unfold k0_part11_skel
  iintro H Hk
  iapply (col_step d L (i1 := k0_pay119 v114 160#32) (i2 := k0_pay120 v117) (h1 := fun hw => k0_idx101_inb k0_t1 _ hw k0_h4) (h2 := fun hw => k0_idx102_inb k0_t1 _ hw k0_h4)
    hG 16 (by omega) rfl rfl (fun h _ => h) (fun h _ => h)) $$ H
  iintro H
  iapply (col_step d L (i1 := k0_pay121 v114) (i2 := k0_pay122 v117) (h1 := fun hw => k0_idx103_inb k0_t1 _ hw k0_h4) (h2 := fun hw => k0_idx104_inb k0_t1 _ hw k0_h4)
    hG 17 (by omega) rfl rfl (fun h _ => h) (fun h _ => h)) $$ H
  iintro H
  iapply (col_step d L (i1 := k0_pay123 v114) (i2 := k0_pay124 v117) (h1 := fun hw => k0_idx105_inb k0_t1 _ hw k0_h4) (h2 := fun hw => k0_idx106_inb k0_t1 _ hw k0_h4)
    hG 18 (by omega) rfl rfl (fun h _ => h) (fun h _ => h)) $$ H
  iintro H
  iapply (col_step d L (i1 := k0_pay125 v114) (i2 := k0_pay126 v117) (h1 := fun hw => k0_idx107_inb k0_t1 _ hw k0_h4) (h2 := fun hw => k0_idx108_inb k0_t1 _ hw k0_h4)
    hG 19 (by omega) rfl rfl (fun h _ => h) (fun h _ => h)) $$ H
  iintro H
  iapply (col_step d L (i1 := k0_pay127 v114) (i2 := k0_pay128 v117) (h1 := fun hw => k0_idx109_inb k0_t1 _ hw k0_h4) (h2 := fun hw => k0_idx110_inb k0_t1 _ hw k0_h4)
    hG 20 (by omega) rfl rfl (fun h _ => h) (fun h _ => h)) $$ H
  iintro H
  iapply (col_step d L (i1 := k0_pay129 v114) (i2 := k0_pay130 v117) (h1 := fun hw => k0_idx111_inb k0_t1 _ hw k0_h4) (h2 := fun hw => k0_idx112_inb k0_t1 _ hw k0_h4)
    hG 21 (by omega) rfl rfl (fun h _ => h) (fun h _ => h)) $$ H
  iintro H
  rw [Prog.pure_eq_ret, wp_ret]
  imodintro
  iapply Hk
  iexact H

/-- Columns 22 to 27. -/
theorem part12_step {g : ℕ} {W : ℕ → F .f32} (v114 v117 : IVec S16 32) (hG : GroupOk W tb g v114 v117) {Q : BitVec 32 → sProp 𝕄} :
    iprop(hold d L arg5 (· = tb) ∗ hold d L arg9 (OutOk W g 22)) ⊢ iprop((iprop(hold d L arg5 (· = tb) ∗ hold d L arg9 (OutOk W g 28))
        -∗ Q 280#32)
      -∗ wp frame (wpE (defs₀ (F := F)) 𝒱₀ (thr d L) none) Set.univ
          (k0_part12 L arg2 harg2 arg3 harg3 arg4 harg4 arg5 harg5 arg6 harg6 arg7 harg7 arg8 harg8 arg9 harg9 arg10 arg11 arg12 arg13 v17_r0 k0_t1 k0_h4 v114 v117 220#32) Q) := by
  rw [k0_part12_eq_skeleton]; unfold k0_part12_skel
  iintro H Hk
  iapply (col_step d L (i1 := k0_pay131 v114 220#32) (i2 := k0_pay132 v117) (h1 := fun hw => k0_idx113_inb k0_t1 _ hw k0_h4) (h2 := fun hw => k0_idx114_inb k0_t1 _ hw k0_h4)
    hG 22 (by omega) rfl rfl (fun h _ => h) (fun h _ => h)) $$ H
  iintro H
  iapply (col_step d L (i1 := k0_pay133 v114) (i2 := k0_pay134 v117) (h1 := fun hw => k0_idx115_inb k0_t1 _ hw k0_h4) (h2 := fun hw => k0_idx116_inb k0_t1 _ hw k0_h4)
    hG 23 (by omega) rfl rfl (fun h _ => h) (fun h _ => h)) $$ H
  iintro H
  iapply (col_step d L (i1 := k0_pay135 v114) (i2 := k0_pay136 v117) (h1 := fun hw => k0_idx117_inb k0_t1 _ hw k0_h4) (h2 := fun hw => k0_idx118_inb k0_t1 _ hw k0_h4)
    hG 24 (by omega) rfl rfl (fun h _ => h) (fun h _ => h)) $$ H
  iintro H
  iapply (col_step d L (i1 := k0_pay137 v114) (i2 := k0_pay138 v117) (h1 := fun hw => k0_idx119_inb k0_t1 _ hw k0_h4) (h2 := fun hw => k0_idx120_inb k0_t1 _ hw k0_h4)
    hG 25 (by omega) rfl rfl (fun h _ => h) (fun h _ => h)) $$ H
  iintro H
  iapply (col_step d L (i1 := k0_pay139 v114) (i2 := k0_pay140 v117) (h1 := fun hw => k0_idx121_inb k0_t1 _ hw k0_h4) (h2 := fun hw => k0_idx122_inb k0_t1 _ hw k0_h4)
    hG 26 (by omega) rfl rfl (fun h _ => h) (fun h _ => h)) $$ H
  iintro H
  iapply (col_step d L (i1 := k0_pay141 v114) (i2 := k0_pay142 v117) (h1 := fun hw => k0_idx123_inb k0_t1 _ hw k0_h4) (h2 := fun hw => k0_idx124_inb k0_t1 _ hw k0_h4)
    hG 27 (by omega) rfl rfl (fun h _ => h) (fun h _ => h)) $$ H
  iintro H
  rw [Prog.pure_eq_ret, wp_ret]
  imodintro
  iapply Hk
  iexact H

/-- One group: its rows' words, over the groups before it. -/
theorem grp1_step (k0_t3 : Fin k0_t3_loop.trips) (hg : k0_t3.val < 64) (u : Unit) {Q : Unit → sProp 𝕄} :
    iprop(hold d L arg7 (· = b) ∗ hold d L arg5 (· = tb) ∗ hold d L arg9 (OutOk (cell tb b) k0_t3.val 0)) ⊢ iprop(
      (iprop(hold d L arg7 (· = b) ∗ hold d L arg5 (· = tb) ∗ hold d L arg9 (OutOk (cell tb b) (k0_t3.val + 1) 0)) -∗ Q ⟨⟩)
      -∗ wp frame (wpE (defs₀ (F := F)) 𝒱₀ (thr d L) none) Set.univ
          (k0_t3_body L arg2 harg2 arg3 harg3 arg4 harg4 arg5 harg5 arg6 harg6 arg7 harg7 arg8 harg8 arg9 harg9 arg10 arg11 arg12 arg13 v17_r0 k0_t1 k0_h4 k0_t3 u) Q) := by
  have hG : GroupOk (cell tb b) tb k0_t3.val
      (k0_pay85 (gnum b k0_t3.val) (gden b k0_t3.val) (k0_pay83 (gnum b k0_t3.val) (gden b k0_t3.val)) (k0_pay84 (gden b k0_t3.val)))
      (k0_pay86 k0_pay2 (Scf.iv 0#32 1#32 k0_t3)) :=
    groupOk tb b k0_t3.val hg _ _ (pay_bin _ _) (base_word k0_t3.val hg)
  unfold k0_t3_body
  rw [wp_bind]
  iintro ⟨Hb, Ht, Ho⟩ Hk
  iapply (part7_step d L arg2 harg2 arg3 harg3 arg4 harg4 arg5 harg5 arg6 harg6 arg7 harg7 arg8 harg8 arg9 harg9 arg10 arg11 arg12 arg13 v17_r0 b k0_t1 k0_h4 k0_t3 hg) $$ Hb
  iintro Hb
  rw [wp_bind]
  ihave H : iprop(hold d L arg5 (· = tb) ∗ hold d L arg9 (OutOk (cell tb b) k0_t3.val 0)) $$ [Ht Ho]
  · isplitl [Ht]
    · iexact Ht
    · iexact Ho
  iapply (part8_step d L arg2 harg2 arg3 harg3 arg4 harg4 arg5 harg5 arg6 harg6 arg7 harg7 arg8 harg8 arg9 harg9 arg10 arg11 arg12 arg13 v17_r0 tb k0_t1 k0_h4 _ _ _ _ _ hG) $$ H
  iintro H
  rw [wp_bind]
  iapply (part9_step d L arg2 harg2 arg3 harg3 arg4 harg4 arg5 harg5 arg6 harg6 arg7 harg7 arg8 harg8 arg9 harg9 arg10 arg11 arg12 arg13 v17_r0 tb k0_t1 k0_h4 _ _ hG) $$ H
  iintro H
  rw [wp_bind]
  iapply (part10_step d L arg2 harg2 arg3 harg3 arg4 harg4 arg5 harg5 arg6 harg6 arg7 harg7 arg8 harg8 arg9 harg9 arg10 arg11 arg12 arg13 v17_r0 tb k0_t1 k0_h4 _ _ hG) $$ H
  iintro H
  rw [wp_bind]
  iapply (part11_step d L arg2 harg2 arg3 harg3 arg4 harg4 arg5 harg5 arg6 harg6 arg7 harg7 arg8 harg8 arg9 harg9 arg10 arg11 arg12 arg13 v17_r0 tb k0_t1 k0_h4 _ _ hG) $$ H
  iintro H
  rw [wp_bind]
  iapply (part12_step d L arg2 harg2 arg3 harg3 arg4 harg4 arg5 harg5 arg6 harg6 arg7 harg7 arg8 harg8 arg9 harg9 arg10 arg11 arg12 arg13 v17_r0 tb k0_t1 k0_h4 _ _ hG) $$ H
  iintro H
  iapply (col_step d L (i1 := k0_pay11 _ 280#32) (i2 := k0_pay12 _) (h1 := fun hw => k0_idx125_inb k0_t1 _ hw k0_h4) (h2 := fun hw => k0_idx126_inb k0_t1 _ hw k0_h4)
    hG 28 (by omega) rfl rfl (fun h _ => h) (fun h _ => h)) $$ H
  iintro H
  iapply (col_step d L (i1 := k0_pay13 _) (i2 := k0_pay14 _) (h1 := fun hw => k0_idx127_inb k0_t1 _ hw k0_h4) (h2 := fun hw => k0_idx128_inb k0_t1 _ hw k0_h4)
    hG 29 (by omega) rfl rfl (fun h _ => h) (fun h _ => h)) $$ H
  iintro H
  iapply (col_step d L (i1 := k0_pay15 _) (i2 := k0_pay16 _) (h1 := fun hw => k0_idx129_inb k0_t1 _ hw k0_h4) (h2 := fun hw => k0_idx130_inb k0_t1 _ hw k0_h4)
    hG 30 (by omega) rfl rfl (fun h _ => h) (fun h _ => h)) $$ H
  iintro H
  iapply (col_step d L (i1 := k0_pay17 _) (i2 := k0_pay18 _) (h1 := fun hw => k0_idx131_inb k0_t1 _ hw k0_h4) (h2 := fun hw => k0_idx132_inb k0_t1 _ hw k0_h4)
    hG 31 (by omega) rfl rfl (fun h _ => h) (fun h _ => h)) $$ H
  iintro H
  rw [Prog.pure_eq_ret, wp_ret]
  imodintro
  iapply Hk
  icases H with ⟨Ht, Ho⟩
  isplitl [Hb]; · iexact Hb
  isplitl [Ht]; · iexact Ht
  unfold hold
  icases Ho with ⟨%f, %hf, Ho⟩
  iexists f
  isplitr
  · ipureintro; exact hf.next
  · iexact Ho

end Part1

end Cert.Proof.Hp

end
-- ==== Proof.Half1.lean ====
/-
  An odd chunk at one tile: its words awaited, the next chunk's started, its rows computed group by group and started on their way out.
-/
module

public import proofs.«01_k».proof.Proof.Trip
public import proofs.«01_k».proof.Proof.Rows1

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

section Half1

variable (d : Dev nD) (L : grid0.Coords) (q : PosShare TreeShare) (X : S22118400.Idx → F .f32) (tb : S320.Idx → F .f32)
  (O : CellTallies nD τ sig (HIx 1)) (W : Waits sig (HIx 1))
variable (hx : (xW).IsWhole) (hw : (wW).IsWhole) (ho : (oW).IsWhole) (arg5 : Memref sig .scVector .vmem S320 .f32) (harg5 : arg5.IsWhole)
  (arg6 : Memref sig .scVector .vmem S27648 .f32) (harg6 : arg6.IsWhole) (arg7 : Memref sig .scVector .vmem S27648 .f32) (harg7 : arg7.IsWhole)
  (arg8 : Memref sig .scVector .vmem S32768 .f32) (harg8 : arg8.IsWhole) (arg9 : Memref sig .scVector .vmem S32768 .f32) (harg9 : arg9.IsWhole)
  (arg10 arg11 arg12 arg13 v17_r0 : DmaSems sig S_)

/-- The chunk's groups, all sixty-four. -/
theorem rows1 (k0_t1 : Fin k0_t1_loop.trips) (k0_h4 : k0_cond4 k0_t1 = 1#1) (b : S27648.Idx → F .f32) {Q : Unit → sProp 𝕄} :
    iprop(hold d L arg7 (· = b) ∗ hold d L arg5 (· = tb) ∗ hold d L arg9 (fun _ => True))
      ⊢ iprop((iprop(hold d L arg7 (· = b) ∗ hold d L arg5 (· = tb) ∗ hold d L arg9 (OutOk (cell tb b) 64 0)) -∗ Q ⟨⟩)
        -∗ wp frame (wpE (defs₀ (F := F)) 𝒱₀ (thr d L) none) Set.univ
          (Scf.Loop.for k0_t3_loop (k0_t3_ok k0_t1 k0_h4) ⟨⟩ (k0_t3_body L xW hx wW hw oW ho arg5 harg5 arg6 harg6 arg7 harg7 arg8 harg8 arg9 harg9 arg10 arg11 arg12 arg13 v17_r0 k0_t1 k0_h4)) Q) := by
  iintro ⟨Hb, Ht, Ho⟩ Hk
  iapply (Scf.wp_for frame (wpE (defs₀ (F := F)) 𝒱₀ (thr d L) none) Set.univ _ _ _ _ _ _
    (fun k _ => iprop(hold d L arg7 (· = b) ∗ hold d L arg5 (· = tb) ∗ hold d L arg9 (OutOk (cell tb b) k 0))) ?region)
  case region =>
    intro k u
    iintro H
    iapply (grp1_step d L xW hx wW hw oW ho arg5 harg5 arg6 harg6 arg7 harg7 arg8 harg8 arg9 harg9 arg10 arg11 arg12 arg13 v17_r0 tb b k0_t1 k0_h4 k (lt_of_lt_of_eq k.isLt trips64') u) $$ H
    iintro H
    iexact H
  isplitr [Hk]
  · isplitl [Hb]; · iexact Hb
    isplitl [Ht]; · iexact Ht
    iapply (hold_mono d L arg9 (P' := OutOk (cell tb b) 0 0) (fun f _ j hj => absurd hj (by omega))) $$ Ho
  · iintro %u H
    iapply Hk
    rw [show Scf.trips k0_t3_loop.lb k0_t3_loop.ub k0_t3_loop.st = 64 from trips64']
    iexact H

/-- One trip on an odd chunk. -/
theorem trip1 (k0_t1 : Fin k0_t1_loop.trips) (hpar : k0_t1.val % 2 = 1) (u : Unit) :
    between d L q X (outAll tb X) tb O W arg5 arg7 arg11.sem arg9 arg13.sem arg6 arg10.sem arg8 arg12.sem k0_t1.val
      ⊢ wp frame (wpE (defs₀ (F := F)) 𝒱₀ (thr d L) none) Set.univ (k0_t1_body L xW hx wW hw oW ho arg5 harg5 arg6 harg6 arg7 harg7 arg8 harg8 arg9 harg9 arg10 arg11 arg12 arg13 v17_r0 k0_t1 u)
          fun _ => between d L q X (outAll tb X) tb O W arg5 arg6 arg10.sem arg8 arg12.sem arg7 arg11.sem arg9 arg13.sem (k0_t1.val + 1) := by
  have ht : k0_t1.val < 25 := lt_of_lt_of_eq k0_t1.isLt trips25
  have hC := c0_le L
  have h1 : k0_cond4 k0_t1 = 1#1 := (cond4_iff k0_t1).mpr hpar
  have h4 : ¬ k0_cond1 k0_t1 = 1#1 := fun h => by have := (cond1_iff k0_t1).mp h; omega
  unfold k0_t1_body between
  dsimp only
  simp only [dif_pos h1, dif_neg h4]
  rw [show inSlot d L q X arg7 arg11.sem k0_t1.val = fin d L q X arg7 arg11.sem (c0 L + k0_t1.val) from if_pos ht]
  iintro ⟨#Hmw, Htb, Hin, ⟨Hb1, Hs1⟩, Ho0, Ho1, Hdone, Htodo, HO⟩
  iapply (in_wait d L) $$ [Hin HO]
  · isplitr; · iexact Hmw
    isplitl [Hin]; · iexact Hin
    iexact HO
  iintro ⟨Hb0, HX, Hs0, HO⟩
  iapply (next_step d L q X k0_t1.val (cond5_iff k0_t1) (off4_c0 L k0_t1)) $$ [Hb1 HX Hs1]
  · isplitl [Hb1]; · iexact Hb1
    isplitl [HX]; · iexact HX
    iexact Hs1
  iintro Hin
  iapply (back_step d L (outAll tb X) k0_t1.val (cond3_iff k0_t1)) $$ [Ho0 Hdone HO]
  · isplitr; · iexact Hmw
    isplitl [Ho0]; · iexact Ho0
    isplitl [Hdone]; · iexact Hdone
    iexact HO
  iintro ⟨Ha0, Hz0, Hdone, HO⟩
  rw [wp_bind]
  iapply (rows1 d L tb hx hw ho arg5 harg5 arg6 harg6 arg7 harg7 arg8 harg8 arg9 harg9 arg10 arg11 arg12 arg13 v17_r0 k0_t1 h1) $$ [Hb0 Htb Ha0]
  · isplitl [Hb0]; · iexact Hb0
    isplitl [Htb]; · iexact Htb
    iexact Ha0
  iintro ⟨Hb0, Htb, Ha0⟩
  ihave Htodo' := (outTodo_take d L k0_t1.val ht) $$ Htodo
  icases Htodo' with ⟨HP, Htodo⟩
  iapply (out_start d L (G := outAll tb X) (c0 L + k0_t1.val) (off5_c0 L k0_t1)
    (fun j hj => cell_xin tb X (c0 L + k0_t1.val) (by omega) j hj)) $$ [Ha0 HP Hz0]
  · isplitl [Ha0]; · iexact Ha0
    isplitl [HP]; · iexact HP
    iexact Hz0
  iintro Hf
  rw [Prog.pure_eq_ret, wp_ret]
  imodintro
  isplitr; · iexact Hmw
  isplitl [Htb]; · iexact Htb
  isplitl [Hin]; · iexact Hin
  isplitl [Hb0 Hs0]
  · isplitl [Hb0]
    · iapply (hold_any d L arg7 _) $$ Hb0
    · iexact Hs0
  isplitl [Ho1]; · iexact Ho1
  isplitl [Hf]
  · rw [show outSlot d L (outAll tb X) arg9 arg13.sem (k0_t1.val + 1 + 1) = fout d L (outAll tb X) arg9 arg13.sem (c0 L + k0_t1.val) from rfl]
    iexact Hf
  isplitl [Hdone]; · iexact Hdone
  isplitl [Htodo]; · iexact Htodo
  iexact HO

end Half1

end Cert.Proof.Hp

end
-- ==== Proof.Tile.lean ====
/-
  One tile's whole task: the table fetched, its twenty-five chunks, the last two chunks' rows awaited.
-/
module

public import proofs.«01_k».proof.Proof.Half0
public import proofs.«01_k».proof.Proof.Half1

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

section Tile

variable (d : Dev nD) (L : grid0.Coords) (q : PosShare TreeShare) (X : S22118400.Idx → F .f32) (qw : PosShare TreeShare) (tb : S320.Idx → F .f32)
  (O : CellTallies nD τ sig (HIx 1)) (W : Waits sig (HIx 1))
variable (hx : (xW).IsWhole) (hw : (wW).IsWhole) (ho : (oW).IsWhole) (arg5 : Memref sig .scVector .vmem S320 .f32) (harg5 : arg5.IsWhole)
  (arg6 : Memref sig .scVector .vmem S27648 .f32) (harg6 : arg6.IsWhole) (arg7 : Memref sig .scVector .vmem S27648 .f32) (harg7 : arg7.IsWhole)
  (arg8 : Memref sig .scVector .vmem S32768 .f32) (harg8 : arg8.IsWhole) (arg9 : Memref sig .scVector .vmem S32768 .f32) (harg9 : arg9.IsWhole)
  (arg10 arg11 arg12 arg13 v17_r0 : DmaSems sig S_)

/-- A read share of the table. -/
abbrev wSh : sProp 𝕄 := wW.view.loc (thr d L) ↦{qw} tb

/-- The table fetched. -/
theorem table_step {α : Type} {Q : α → sProp 𝕄} {B : Memref sig .scVector .vmem S320 .f32} {sm : DmaSem sig} {h1} {h2} {h3} {h4} {h5}
    {k : PUnit → Prog (TpuEff nD τ sig (Elt F) Λ₀ (thr d L).2) α} :
    iprop(MayWaits (thr d L) (none : HIx 1) O ∗ wSh d L qw tb ∗ hold d L B (fun _ => True) ∗ semVal (thr d L, .dma sm) 0 ∗ owes (thr d L) O W)
      ⊢ iprop((iprop(wSh d L qw tb ∗ hold d L B (· = tb) ∗ semVal (thr d L, .dma sm) 0 ∗ ow d L O W)
          -∗ wp frame (wpE (defs₀ (F := F)) 𝒱₀ (thr d L) none) Set.univ (k ⟨⟩) Q)
        -∗ wp frame (wpE (defs₀ (F := F)) 𝒱₀ (thr d L) none) Set.univ
          (Prog.lift (.enqueueDma wW (.here B) (.dma sm) h1 h2 h3) >>= fun _ => Prog.lift (.waitDma2 sm wW B h4 h5) >>= k) Q) := by
  rw [hold_view, hold_view]
  unfold ow
  iintro ⟨Hmw, Hw, ⟨%f, -, HB⟩, Hs, HO⟩ Hk
  iapply (Transfers.wp_dmaFromWhole countersEmb 𝒱₀ (thr d L) none (none : HIx 1) B.view.dmaCredit rfl (B.view.dmaCredit_pos (show 0 < S320.numel by decide)) (Finset.Subset.refl _)) $$ [HB Hw Hs]
  · isplitl [Hw]; · iexact Hw
    isplitl [HB]; · iexact HB
    iexact Hs
  iintro Hf
  ihave Hmw' := (Transfers.MayWaits.elim (.dma sm)) $$ Hmw
  iapply (Transfers.wp_waitLocalO countersEmb 𝒱₀ (thr d L) none (none : HIx 1) (O := O) (W := W) rfl) $$ [Hf HO Hmw']
  · isplitl [Hf]; · iexact Hf
    isplitl [HO]; · iexact HO
    iexact Hmw'
  iintro ⟨⟨HB, Hw⟩, Hs, HO⟩
  iapply Hk
  isplitl [Hw]; · iexact Hw
  isplitl [HB]
  · iexists (B.view.write (Elt F) f (ReadAs.same.apply (wW.view.read (Elt F) tb)) Finset.univ)
    isplitr
    · ipureintro
      exact (View.read_write_univ _ _).trans (View.read_whole _ _)
    · iexact HB
  isplitl [Hs]; · iexact Hs
  iexists (insert (SemLoc.dma sm, (none : HIx 1)) W)
  isplitr
  · ipureintro
    intro p hp
    rcases Finset.mem_insert.mp hp with hp | hp
    · exact .inr (hp ▸ rfl)
    · exact .inl hp
  · iexact HO

/-- Between chunks, by parity. -/
def inv (t : ℕ) : sProp 𝕄 :=
  if t % 2 = 0 then between d L q X (outAll tb X) tb O W arg5 arg6 arg10.sem arg8 arg12.sem arg7 arg11.sem arg9 arg13.sem t
  else between d L q X (outAll tb X) tb O W arg5 arg7 arg11.sem arg9 arg13.sem arg6 arg10.sem arg8 arg12.sem t

theorem inv_step (k0_t1 : Fin k0_t1_loop.trips) (u : Unit) :
    inv d L q X tb O W arg5 arg6 arg7 arg8 arg9 arg10 arg11 arg12 arg13 k0_t1.val
      ⊢ wp frame (wpE (defs₀ (F := F)) 𝒱₀ (thr d L) none) Set.univ (k0_t1_body L xW hx wW hw oW ho arg5 harg5 arg6 harg6 arg7 harg7 arg8 harg8 arg9 harg9 arg10 arg11 arg12 arg13 v17_r0 k0_t1 u)
          fun _ => inv d L q X tb O W arg5 arg6 arg7 arg8 arg9 arg10 arg11 arg12 arg13 (k0_t1.val + 1) := by
  unfold inv
  by_cases h : k0_t1.val % 2 = 0
  · rw [if_pos h, if_neg (show ¬ (k0_t1.val + 1) % 2 = 0 by omega)]
    exact trip0 d L q X tb O W hx hw ho arg5 harg5 arg6 harg6 arg7 harg7 arg8 harg8 arg9 harg9 arg10 arg11 arg12 arg13 v17_r0 k0_t1 h u
  · rw [if_neg h, if_pos (show (k0_t1.val + 1) % 2 = 0 by omega)]
    exact trip1 d L q X tb O W hx hw ho arg5 harg5 arg6 harg6 arg7 harg7 arg8 harg8 arg9 harg9 arg10 arg11 arg12 arg13 v17_r0 k0_t1 (by omega) u

/-- The twenty-five chunks. -/
theorem loop_step {Q : Unit → sProp 𝕄} :
    inv d L q X tb O W arg5 arg6 arg7 arg8 arg9 arg10 arg11 arg12 arg13 0
      ⊢ iprop((inv d L q X tb O W arg5 arg6 arg7 arg8 arg9 arg10 arg11 arg12 arg13 25 -∗ Q ⟨⟩)
        -∗ wp frame (wpE (defs₀ (F := F)) 𝒱₀ (thr d L) none) Set.univ
          (Scf.Loop.for k0_t1_loop k0_t1_ok ⟨⟩ (k0_t1_body L xW hx wW hw oW ho arg5 harg5 arg6 harg6 arg7 harg7 arg8 harg8 arg9 harg9 arg10 arg11 arg12 arg13 v17_r0)) Q) := by
  iintro H Hk
  iapply (Scf.wp_for frame (wpE (defs₀ (F := F)) 𝒱₀ (thr d L) none) Set.univ _ _ _ _ _ _
    (fun k _ => inv d L q X tb O W arg5 arg6 arg7 arg8 arg9 arg10 arg11 arg12 arg13 k) ?region)
  case region =>
    intro k u
    exact inv_step d L q X tb O W hx hw ho arg5 harg5 arg6 harg6 arg7 harg7 arg8 harg8 arg9 harg9 arg10 arg11 arg12 arg13 v17_r0 k u
  isplitl [H]; · iexact H
  iintro %u H
  iapply Hk
  rw [show (25 : ℕ) = Scf.trips k0_t1_loop.lb k0_t1_loop.ub k0_t1_loop.st from trips25.symm]
  iexact H

/-- Every scratch buffer free, every semaphore at zero. -/
def idle : sProp 𝕄 :=
  iprop(hold d L arg5 (fun _ => True) ∗ hold d L arg6 (fun _ => True) ∗ hold d L arg7 (fun _ => True) ∗ hold d L arg8 (fun _ => True) ∗ hold d L arg9 (fun _ => True)
    ∗ semVal (thr d L, .dma arg10.sem) 0 ∗ semVal (thr d L, .dma arg11.sem) 0 ∗ semVal (thr d L, .dma arg12.sem) 0 ∗ semVal (thr d L, .dma arg13.sem) 0
    ∗ semVal (thr d L, .dma v17_r0.sem) 0)

/-- The tile's rows written, all of them. -/
def rowsOut (G : S26214400.Idx → F .f32) : sProp 𝕄 := bigSep (Finset.range 25) fun k => oPc d L (c0 L + k) G

theorem rowsOut_join (G : S26214400.Idx → F .f32) :
    iprop(outDone d L G 25 ∗ oPc d L (c0 L + 23) G ∗ oPc d L (c0 L + 24) G) ⊢ (rowsOut d L G : sProp 𝕄) := by
  have e : (rowsOut d L G : sProp 𝕄) = iprop(oPc d L (c0 L + 24) G ∗ oPc d L (c0 L + 23) G ∗ outDone d L G 25) := by
    unfold outDone rowsOut
    rw [show Finset.range 25 = insert 24 (insert 23 (Finset.range 23)) by decide, SparseCore.bigSep_insert' (by decide), SparseCore.bigSep_insert' (by decide)]
  rw [e]
  iintro ⟨H, H1, H2⟩
  isplitl [H2]; · iexact H2
  isplitl [H1]; · iexact H1
  iexact H

theorem body_run :
    iprop(MayWaits (thr d L) (none : HIx 1) O ∗ wSh d L qw tb ∗ xSh d L q X ∗ outTodo d L 0
        ∗ idle d L arg5 arg6 arg7 arg8 arg9 arg10 arg11 arg12 arg13 v17_r0 ∗ owes (thr d L) O W)
      ⊢ wp frame (wpE (defs₀ (F := F)) 𝒱₀ (thr d L) none) Set.univ
          (cc0__sc_body L xW hx wW hw oW ho arg5 harg5 arg6 harg6 arg7 harg7 arg8 harg8 arg9 harg9 arg10 arg11 arg12 arg13 v17_r0)
          fun _ => iprop(wSh d L qw tb ∗ xSh d L q X ∗ rowsOut d L (outAll tb X) ∗ idle d L arg5 arg6 arg7 arg8 arg9 arg10 arg11 arg12 arg13 v17_r0 ∗ ow d L O W) := by
  rw [cc0__sc_body_eq_skeleton]
  unfold cc0__sc_body_skel idle
  dsimp only
  iintro ⟨#Hmw, Hw, HX, Htodo, ⟨H5, H6, H7, H8, H9, Hs10, Hs11, Hs12, Hs13, Hs17⟩, HO⟩
  iapply (table_step d L qw tb O W) $$ [Hw H5 Hs17 HO]
  · isplitr; · iexact Hmw
    isplitl [Hw]; · iexact Hw
    isplitl [H5]; · iexact H5
    isplitl [Hs17]; · iexact Hs17
    iexact HO
  iintro ⟨Hw, H5, Hs17, HO⟩
  iapply (in_start d L (c0 L) (off1_c0 L)) $$ [H6 HX Hs10]
  · isplitl [H6]; · iexact H6
    isplitl [HX]; · iexact HX
    iexact Hs10
  iintro Hf
  rw [wp_bind]
  iapply (loop_step d L q X tb O W hx hw ho arg5 harg5 arg6 harg6 arg7 harg7 arg8 harg8 arg9 harg9 arg10 arg11 arg12 arg13 v17_r0) $$ [H5 Hf H7 Hs11 H8 Hs12 H9 Hs13 Htodo HO]
  · rw [show inv d L q X tb O W arg5 arg6 arg7 arg8 arg9 arg10 arg11 arg12 arg13 0
      = between d L q X (outAll tb X) tb O W arg5 arg6 arg10.sem arg8 arg12.sem arg7 arg11.sem arg9 arg13.sem 0 from rfl]
    unfold between
    rw [show inSlot d L q X arg6 arg10.sem 0 = fin d L q X arg6 arg10.sem (c0 L) from rfl,
      show outSlot d L (outAll tb X) arg8 arg12.sem 0 = iprop(hold d L arg8 (fun _ => True) ∗ semVal (thr d L, .dma arg12.sem) 0) from rfl,
      show outSlot d L (outAll tb X) arg9 arg13.sem (0 + 1) = iprop(hold d L arg9 (fun _ => True) ∗ semVal (thr d L, .dma arg13.sem) 0) from rfl,
      show (outDone d L (outAll tb X) 0 : sProp 𝕄) = iprop(emp) from by unfold outDone; rw [show (0 - 2 : ℕ) = 0 from rfl, Finset.range_zero, BI.bigSep_empty]; rfl]
    isplitr; · iexact Hmw
    isplitl [H5]; · iexact H5
    isplitl [Hf]; · iexact Hf
    isplitl [H7 Hs11]; · isplitl [H7] <;> iassumption
    isplitl [H8 Hs12]; · isplitl [H8] <;> iassumption
    isplitl [H9 Hs13]; · isplitl [H9] <;> iassumption
    isplitr; · iempintro
    isplitl [Htodo]; · iexact Htodo
    iexact HO
  rw [show inv d L q X tb O W arg5 arg6 arg7 arg8 arg9 arg10 arg11 arg12 arg13 25
      = between d L q X (outAll tb X) tb O W arg5 arg7 arg11.sem arg9 arg13.sem arg6 arg10.sem arg8 arg12.sem 25 from rfl]
  unfold between
  rw [show inSlot d L q X arg7 arg11.sem 25 = iprop(hold d L arg7 (fun _ => True) ∗ xSh d L q X ∗ semVal (thr d L, .dma arg11.sem) 0) from rfl,
    show outSlot d L (outAll tb X) arg9 arg13.sem 25 = fout d L (outAll tb X) arg9 arg13.sem (c0 L + 23) from rfl,
    show outSlot d L (outAll tb X) arg8 arg12.sem (25 + 1) = fout d L (outAll tb X) arg8 arg12.sem (c0 L + 24) from rfl]
  iintro ⟨-, H5, ⟨H7, HX, Hs11⟩, ⟨H6, Hs10⟩, Hf9, Hf8, Hdone, -, HO⟩
  iapply (out_wait d L (G := outAll tb X) (C := c0 L + 23)) $$ [Hf9 HO]
  · isplitr; · iexact Hmw
    isplitl [Hf9]; · iexact Hf9
    iexact HO
  iintro ⟨HP1, H9, Hs13, HO⟩
  iapply (out_wait d L (G := outAll tb X) (C := c0 L + 24)) $$ [Hf8 HO]
  · isplitr; · iexact Hmw
    isplitl [Hf8]; · iexact Hf8
    iexact HO
  iintro ⟨HP2, H8, Hs12, HO⟩
  rw [Prog.pure_eq_ret, wp_ret]
  imodintro
  isplitl [Hw]; · iexact Hw
  isplitl [HX]; · iexact HX
  isplitl [Hdone HP1 HP2]
  · iapply (rowsOut_join d L (outAll tb X))
    isplitl [Hdone]; · iexact Hdone
    isplitl [HP1]; · iexact HP1
    iexact HP2
  isplitr [HO]
  · isplitl [H5]; · iapply (hold_any d L arg5 _) $$ H5
    isplitl [H6]; · iexact H6
    isplitl [H7]; · iexact H7
    isplitl [H8]; · iexact H8
    isplitl [H9]; · iexact H9
    isplitl [Hs10]; · iexact Hs10
    isplitl [Hs11]; · iexact Hs11
    isplitl [Hs12]; · iexact Hs12
    isplitl [Hs13]; · iexact Hs13
    iexact Hs17
  · iexact HO

end Tile

end Cert.Proof.Hp

end
-- ==== Proof.Own.lean ====
/-
  One tile's task as the launch hands it over: its read shares and its rows of the output, its own scratch buffers and
  semaphores.
-/
module

public import proofs.«01_k».proof.Proof.Tile

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)

section Own

variable (d : Dev nD) (L : grid0.Coords)

/-- The scratch buffers of the kernel, and its semaphores. -/
def scrs : Finset (Ref sig .scVector) := {cc0_scratch0, cc0_scratch1, cc0_scratch2, cc0_scratch3, cc0_scratch4}
def sems : Finset (SemLoc sig) :=
  {.dma cc0_scratch5.sem, .dma cc0_scratch6.sem, .dma cc0_scratch7.sem, .dma cc0_scratch8.sem, .dma cc0_scoped0.sem}

def scrRefs : Finset (DevRef τ sig) := scrs.map ⟨(thr d L).2.devRef, Proc.devRef_injective _⟩
def semCells : Finset (GSem nD τ sig) := sems.map ⟨fun s => (thr d L, s), fun _ _ e => (Prod.mk.inj e).2⟩

theorem hold_emb {s : Shape} (B : Memref sig .scVector .vmem s .f32) (hB : B.view.set = Finset.univ) :
    (hold d L B (fun _ => True) : sProp 𝕄) = iprop(∃ f, B.view.loc (thr d L) ↦{fullShare} f) := by
  rw [hold_view, hB]
  have h1 : iprop(∃ f, ⌜True⌝ ∗ B.view.loc (thr d L) ↦{fullShare} f) ⊢ (iprop(∃ f, B.view.loc (thr d L) ↦{fullShare} f) : sProp 𝕄) := by
    iintro ⟨%f, -, H⟩
    iexists f
    iexact H
  have h2 : iprop(∃ f, B.view.loc (thr d L) ↦{fullShare} f) ⊢ (iprop(∃ f, ⌜True⌝ ∗ B.view.loc (thr d L) ↦{fullShare} f) : sProp 𝕄) := by
    iintro ⟨%f, H⟩
    iexists f
    isplitr
    · ipureintro; trivial
    · iexact H
  exact BI.Entails.antisymm h1 h2

omit [FloatOps F] in
theorem bigSep_scrs (Φ : Ref sig .scVector → sProp 𝕄) :
    bigSep scrs Φ = iprop(Φ cc0_scratch0 ∗ Φ cc0_scratch1 ∗ Φ cc0_scratch2 ∗ Φ cc0_scratch3 ∗ Φ cc0_scratch4) := by
  unfold scrs
  rw [SparseCore.bigSep_insert' (by decide), SparseCore.bigSep_insert' (by decide), SparseCore.bigSep_insert' (by decide), SparseCore.bigSep_insert' (by decide), bigSep_singleton]

omit [FloatOps F] in
theorem bigSep_sems (Φ : SemLoc sig → sProp 𝕄) :
    bigSep sems Φ = iprop(Φ (.dma cc0_scratch5.sem) ∗ Φ (.dma cc0_scratch6.sem) ∗ Φ (.dma cc0_scratch7.sem) ∗ Φ (.dma cc0_scratch8.sem) ∗ Φ (.dma cc0_scoped0.sem)) := by
  unfold sems
  rw [SparseCore.bigSep_insert' (by decide), SparseCore.bigSep_insert' (by decide), SparseCore.bigSep_insert' (by decide), SparseCore.bigSep_insert' (by decide), bigSep_singleton]

/-- What a tile owns beside the kernel's scratch buffers and semaphores. -/
def rest : sProp 𝕄 :=
  iprop((bigSep (ownRefs (τ := τ) (thr d L).2 \ scrRefs d L) fun b => iprop(∃ f, ((d, b) : Loc nD τ sig) ↦{fullShare} f))
    ∗ bigSep (ownCells (thr d L) \ semCells d L) fun g => semVal g 0)

abbrev idleW : sProp 𝕄 :=
  idle d L (Memref.whole cc0_scratch0) (Memref.whole cc0_scratch1) (Memref.whole cc0_scratch2) (Memref.whole cc0_scratch3) (Memref.whole cc0_scratch4)
    cc0_scratch5 cc0_scratch6 cc0_scratch7 cc0_scratch8 cc0_scoped0

theorem scrRefs_own : scrRefs d L ⊆ ownRefs (τ := τ) (thr d L).2 := by
  intro b hb
  obtain ⟨r, hr, rfl⟩ := Finset.mem_map.mp hb
  refine SparseCore.Cfg.mem_ownRefs_of_owner (p := (thr d L).2) (b := (thr d L).2.devRef r) ?_
  have hr : r = cc0_scratch0 ∨ r = cc0_scratch1 ∨ r = cc0_scratch2 ∨ r = cc0_scratch3 ∨ r = cc0_scratch4 := by simpa [scrs] using hr
  rcases hr with rfl | rfl | rfl | rfl | rfl <;> rfl

theorem semCells_own : semCells d L ⊆ ownCells (thr d L) := by
  intro g hg
  obtain ⟨s, hs, rfl⟩ := Finset.mem_map.mp hg
  refine mem_ownCells.mpr ⟨rfl, ?_⟩
  have h : ∀ s ∈ sems, s.isScoped .scVector = true := by decide
  exact h s hs

/-- A tile's own buffers and semaphores: the kernel's scratch, idle, and the rest. -/
theorem own_eq : (iprop(ownBufs (thr d L) ∗ ownSems0 (thr d L)) : sProp 𝕄) = iprop(idleW d L ∗ rest d L) := by
  unfold idleW idle rest SparseCore.Cfg.ownBufs SparseCore.Cfg.ownSems0
  rw [SparseCore.bigSep_sdiff_split' (scrRefs_own d L), SparseCore.bigSep_sdiff_split' (semCells_own d L)]
  have e1 : (bigSep (scrRefs d L) fun b => iprop(∃ f, ((d, b) : Loc nD τ sig) ↦{fullShare} f))
      = (iprop(hold d L (Memref.whole cc0_scratch0 : Memref sig .scVector .vmem S320 .f32) (fun _ => True)
        ∗ hold d L (Memref.whole cc0_scratch1 : Memref sig .scVector .vmem S27648 .f32) (fun _ => True)
        ∗ hold d L (Memref.whole cc0_scratch2 : Memref sig .scVector .vmem S27648 .f32) (fun _ => True)
        ∗ hold d L (Memref.whole cc0_scratch3 : Memref sig .scVector .vmem S32768 .f32) (fun _ => True)
        ∗ hold d L (Memref.whole cc0_scratch4 : Memref sig .scVector .vmem S32768 .f32) (fun _ => True)) : sProp 𝕄) := by
    rw [hold_emb d L _ (View.set_whole _), hold_emb d L _ (View.set_whole _), hold_emb d L _ (View.set_whole _), hold_emb d L _ (View.set_whole _), hold_emb d L _ (View.set_whole _)]
    unfold scrRefs
    rw [BI.bigSep_map]
    exact bigSep_scrs _
  have e2 : (bigSep (semCells d L) fun g => semVal g 0)
      = (iprop(semVal (thr d L, .dma cc0_scratch5.sem) 0 ∗ semVal (thr d L, .dma cc0_scratch6.sem) 0 ∗ semVal (thr d L, .dma cc0_scratch7.sem) 0
        ∗ semVal (thr d L, .dma cc0_scratch8.sem) 0 ∗ semVal (thr d L, .dma cc0_scoped0.sem) 0) : sProp 𝕄) := by
    unfold semCells
    rw [BI.bigSep_map]
    exact bigSep_sems _
  rw [e1, e2]
  have h1 : ∀ A1 A2 A3 A4 A5 B1 B2 B3 B4 B5 R1 R2 : sProp 𝕄, iprop(((A1 ∗ A2 ∗ A3 ∗ A4 ∗ A5) ∗ R1) ∗ (B1 ∗ B2 ∗ B3 ∗ B4 ∗ B5) ∗ R2)
      ⊢ iprop((A1 ∗ A2 ∗ A3 ∗ A4 ∗ A5 ∗ B1 ∗ B2 ∗ B3 ∗ B4 ∗ B5) ∗ R1 ∗ R2) := by
    intro A1 A2 A3 A4 A5 B1 B2 B3 B4 B5 R1 R2
    iintro ⟨⟨⟨H1, H2, H3, H4, H5⟩, HR1⟩, ⟨H6, H7, H8, H9, H10⟩, HR2⟩
    iframe
  have h2 : ∀ A1 A2 A3 A4 A5 B1 B2 B3 B4 B5 R1 R2 : sProp 𝕄, iprop((A1 ∗ A2 ∗ A3 ∗ A4 ∗ A5 ∗ B1 ∗ B2 ∗ B3 ∗ B4 ∗ B5) ∗ R1 ∗ R2)
      ⊢ iprop(((A1 ∗ A2 ∗ A3 ∗ A4 ∗ A5) ∗ R1) ∗ (B1 ∗ B2 ∗ B3 ∗ B4 ∗ B5) ∗ R2) := by
    intro A1 A2 A3 A4 A5 B1 B2 B3 B4 B5 R1 R2
    iintro ⟨⟨H1, H2, H3, H4, H5, H6, H7, H8, H9, H10⟩, HR1, HR2⟩
    iframe
  exact BI.Entails.antisymm (h1 _ _ _ _ _ _ _ _ _ _ _ _) (h2 _ _ _ _ _ _ _ _ _ _ _ _)

/-- The tile's read share of an array every tile reads. -/
def sh : PosShare TreeShare :=
  Transfers.dealOf (Transfers.dealOf fullShare (Finset.univ : Finset (Fin 2)) (L 0)) (Finset.univ : Finset (Fin 16)) (L 1)

variable (X : S22118400.Idx → F .f32) (tb : S320.Idx → F .f32)

/-- What a tile is handed, and what it hands back. -/
def goPay : sProp 𝕄 := iprop(wSh d L (sh L) tb ∗ xSh d L (sh L) X ∗ outTodo d L 0)
def tdPay : sProp 𝕄 := iprop(wSh d L (sh L) tb ∗ xSh d L (sh L) X ∗ rowsOut d L (outAll tb X))

theorem tile_body (hF : (K (F := F)).Facts) (O : CellTallies nD τ sig (HIx 1)) (W : Waits sig (HIx 1)) (hO : ∀ g, O g none = 0) :
    iprop(levAts (K (F := F)).L (K (F := F)).lev ∗ emp ∗ goPay d L X tb ∗ scopedBufs (thr d L) ∗ scopedSems0 (thr d L) ∗ owes (thr d L) O W)
      ⊢ wp frame (wpE (defs₀ (F := F)) 𝒱₀ (thr d L) none) Set.univ
          (cc0__sc_body L xW (Memref.isWhole_whole _) wW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tdPay d L X tb ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  iintro ⟨#Hlv, -, Hgo, Hbufs, Hsems, HO⟩
  ihave Hmw := ((K (F := F)).mayWaits_none (thr := thr d L) hO) $$ Hlv
  ihave Hown := (Entails.of_eq (own_eq d L)) $$ [Hbufs Hsems]
  · isplitl [Hbufs]; · iexact Hbufs
    iexact Hsems
  icases Hown with ⟨Hidle, Hrest⟩
  unfold goPay
  icases Hgo with ⟨Hw, HX, Htodo⟩
  iapply ((body_run d L (sh L) X (sh L) tb O W (Memref.isWhole_whole _) (Memref.isWhole_whole _) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scoped0).trans (wp_wand frame _ _)) $$ [Hmw Hw HX Htodo Hidle HO]
  · isplitl [Hmw]; · iexact Hmw
    isplitl [Hw]; · iexact Hw
    isplitl [HX]; · iexact HX
    isplitl [Htodo]; · iexact Htodo
    isplitl [Hidle]; · iexact Hidle
    iexact HO
  iintro %u ⟨Hw, HX, Hout, Hidle, HO⟩
  ihave Hown := (Entails.of_eq (own_eq d L).symm) $$ [Hidle Hrest]
  · isplitl [Hidle]; · iexact Hidle
    iexact Hrest
  icases Hown with ⟨Hbufs, Hsems⟩
  isplitl [Hw HX Hout]
  · unfold tdPay
    isplitl [Hw]; · iexact Hw
    isplitl [HX]; · iexact HX
    iexact Hout
  isplitl [Hbufs]; · iexact Hbufs
  isplitl [Hsems]; · iexact Hsems
  unfold ow
  iexact HO

end Own

end Cert.Proof.Hp

end
-- ==== Proof.Launch.lean ====
/-
  The launch: what each SparseCore and each tile is handed and hands back, @main around it, and the whole program's run.
-/
module

public import proofs.«01_k».proof.Proof.Own

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Transfers (Flight MayWaits)
open Idealize.ShloMosaic.StableHlo (held held_split held_sdiff_result wp_hlo_within)

/-! ## The output's pieces -/

def coordsV (c : Fin (grid0.bound 0)) (s : Fin (grid0.bound 1)) : grid0.Coords :=
  fun | 0 => c | 1 => s | ⟨_ + 2, h⟩ => absurd h (Nat.not_lt.2 (Nat.le_add_left _ _))

def coreSet (c : ℕ) : Finset S26214400.Idx := Finset.univ.filter fun j => (j 0).val / 819200 % 2 = c
def tileSet (c i : ℕ) : Finset S26214400.Idx := Finset.univ.filter fun j => (j 0).val / 819200 = 2 * i + c

theorem mem_coreSet {c : ℕ} {j : S26214400.Idx} : j ∈ coreSet c ↔ (j 0).val / 819200 % 2 = c := by simp [coreSet]
theorem mem_tileSet {c i : ℕ} {j : S26214400.Idx} : j ∈ tileSet c i ↔ (j 0).val / 819200 = 2 * i + c := by simp [tileSet]

theorem cores_cover : (Finset.univ : Finset (Fin 2)).biUnion (fun c => coreSet c.val) = Finset.univ := by
  ext j
  simp only [Finset.mem_biUnion, Finset.mem_univ, true_and, iff_true, mem_coreSet]
  exact ⟨⟨(j 0).val / 819200 % 2, Nat.mod_lt _ (by decide)⟩, rfl⟩

theorem tiles_cover (c : Fin 2) : (Finset.univ : Finset (Fin 16)).biUnion (fun i => tileSet c.val i.val) = coreSet c.val := by
  ext j
  have hj : (j 0).val < 26214400 := (j 0).isLt
  have hc := c.isLt
  simp only [Finset.mem_biUnion, Finset.mem_univ, true_and, mem_coreSet, mem_tileSet]
  constructor
  · rintro ⟨i, hi⟩; omega
  · intro h
    exact ⟨⟨(j 0).val / 819200 / 2, by omega⟩, by show _ = 2 * ((j 0).val / 819200 / 2) + c.val; omega⟩

theorem chunks_cover (c i : ℕ) : (Finset.range 25).biUnion (fun k => pc (25 * (2 * i + c) + k)) = tileSet c i := by
  ext j
  simp only [Finset.mem_biUnion, Finset.mem_range, mem_tileSet, mem_pc]
  constructor
  · rintro ⟨k, hk, h⟩; omega
  · intro h
    exact ⟨(j 0).val / 32768 - 25 * (2 * i + c), by omega, by omega, by omega⟩

theorem pc_disjoint {C C' : ℕ} (h : C ≠ C') : Disjoint (pc C) (pc C') := by
  refine Finset.disjoint_left.mpr fun j h1 h2 => ?_
  have h1 := mem_pc.mp h1
  have h2 := mem_pc.mp h2
  omega

section Launch

variable (d : Dev nD)

abbrev a0Loc : Loc nD τ sig := (SparseCore.T d).loc main_arg0
abbrev a1Loc : Loc nD τ sig := (SparseCore.T d).loc main_arg1
abbrev xLoc : Loc nD τ sig := (SparseCore.T d).loc main_v0
abbrev wLoc : Loc nD τ sig := (SparseCore.T d).loc main_v1
abbrev oLoc : Loc nD τ sig := (SparseCore.T d).loc main_v2
abbrev rLoc : Loc nD τ sig := (SparseCore.T d).loc main_v3

abbrev xAt (q : PosShare TreeShare) (X : S22118400.Idx → F .f32) : sProp 𝕄 := xLoc d ↦{q} X
abbrev wAt (q : PosShare TreeShare) (tb : S320.Idx → F .f32) : sProp 𝕄 := wLoc d ↦{q} tb
abbrev oAt (f : S26214400.Idx → F .f32) : sProp 𝕄 := oLoc d ↦{fullShare} f

/-- The whole output is every tile's rows. -/
theorem out_pieces (f : S26214400.Idx → F .f32) :
    (oAt d f : sProp 𝕄) = bigSep (Finset.univ : Finset (Fin 2)) fun c => bigSep (Finset.univ : Finset (Fin 16)) fun i => rowsOut d (coordsV c i) f := by
  have e1 : (oAt d f : sProp 𝕄) = bigSep (Finset.univ : Finset (Fin 2)) fun c => oLoc d ↦[coreSet c.val]{fullShare} f := by
    rw [← pointsTo_biUnion (ℓ := oLoc d) Finset.univ (fun c : Fin 2 => coreSet c.val), cores_cover]
    intro c _ c' _ h
    refine Finset.disjoint_left.mpr fun j h1 h2 => h (Fin.ext ?_)
    exact (mem_coreSet.mp h1).symm.trans (mem_coreSet.mp h2)
  rw [e1]
  refine bigSep_congr fun c _ => ?_
  have e2 : (oLoc d ↦[coreSet c.val]{fullShare} f : sProp 𝕄) = bigSep (Finset.univ : Finset (Fin 16)) fun i => oLoc d ↦[tileSet c.val i.val]{fullShare} f := by
    rw [← pointsTo_biUnion (ℓ := oLoc d) Finset.univ (fun i : Fin 16 => tileSet c.val i.val), tiles_cover]
    intro i _ i' _ h
    refine Finset.disjoint_left.mpr fun j h1 h2 => h (Fin.ext ?_)
    have h1 := mem_tileSet.mp h1
    have h2 := mem_tileSet.mp h2
    omega
  rw [e2]
  refine bigSep_congr fun i _ => ?_
  rw [← chunks_cover, pointsTo_biUnion (ℓ := oLoc d) (Finset.range 25) (fun k => pc (25 * (2 * i.val + c.val) + k))]
  · rfl
  · intro k _ k' _ h
    exact pc_disjoint (by omega)

theorem rows_todo (L : grid0.Coords) (f : S26214400.Idx → F .f32) : rowsOut d L f ⊢ (outTodo d L 0 : sProp 𝕄) := by
  unfold rowsOut outTodo
  rw [← Finset.range_eq_Ico]
  have h : ∀ k, oPc d L (c0 L + k) f ⊢ (iprop(∃ g, oPc d L (c0 L + k) g) : sProp 𝕄) := by
    intro k
    iintro H
    iexists f
    iexact H
  exact bigSep_mono fun k _ => h k

/-! ## What is handed over -/

/-- A SparseCore's read share of an array both read. -/
def shC (c : Fin 2) : PosShare TreeShare := Transfers.dealOf fullShare (Finset.univ : Finset (Fin 2)) c

variable (X : S22118400.Idx → F .f32) (tb : S320.Idx → F .f32)

def stPay (c : Fin 2) : sProp 𝕄 := iprop(wAt d (shC c) tb ∗ xAt d (shC c) X ∗ bigSep (Finset.univ : Finset (Fin 16)) fun i => outTodo d (coordsV c i) 0)
def dnPay (c : Fin 2) : sProp 𝕄 :=
  iprop(wAt d (shC c) tb ∗ xAt d (shC c) X ∗ bigSep (Finset.univ : Finset (Fin 16)) fun i => rowsOut d (coordsV c i) (outAll tb X))

theorem x_cores : (xAt d fullShare X : sProp 𝕄) = bigSep (Finset.univ : Finset (Fin 2)) fun c => xAt d (shC c) X :=
  Transfers.pointsTo_deal Finset.univ Finset.univ_nonempty fullShare
theorem w_cores : (wAt d fullShare tb : sProp 𝕄) = bigSep (Finset.univ : Finset (Fin 2)) fun c => wAt d (shC c) tb :=
  Transfers.pointsTo_deal Finset.univ Finset.univ_nonempty fullShare
theorem x_tiles (c : Fin 2) : (xAt d (shC c) X : sProp 𝕄) = bigSep (Finset.univ : Finset (Fin 16)) fun i => xSh d (coordsV c i) (sh (coordsV c i)) X :=
  Transfers.pointsTo_deal Finset.univ Finset.univ_nonempty (shC c)
theorem w_tiles (c : Fin 2) : (wAt d (shC c) tb : sProp 𝕄) = bigSep (Finset.univ : Finset (Fin 16)) fun i => wSh d (coordsV c i) (sh (coordsV c i)) tb :=
  Transfers.pointsTo_deal Finset.univ Finset.univ_nonempty (shC c)

theorem go_split (c : Fin 2) : (stPay d X tb c : sProp 𝕄) = bigSep (Finset.univ : Finset (Fin 16)) fun i => goPay d (coordsV c i) X tb := by
  unfold stPay goPay
  rw [bigSep_sep', bigSep_sep', x_tiles, w_tiles]

theorem td_join (c : Fin 2) : (dnPay d X tb c : sProp 𝕄) = bigSep (Finset.univ : Finset (Fin 16)) fun i => tdPay d (coordsV c i) X tb := by
  unfold dnPay tdPay
  rw [bigSep_sep', bigSep_sep', x_tiles, w_tiles]

theorem st_split (f : S26214400.Idx → F .f32) :
    iprop(wAt d fullShare tb ∗ xAt d fullShare X ∗ oAt d f) ⊢ (bigSep (Finset.univ : Finset (Fin 2)) fun c => stPay d X tb c : sProp 𝕄) := by
  unfold stPay
  rw [bigSep_sep', bigSep_sep', x_cores, w_cores, out_pieces]
  have h : (bigSep (Finset.univ : Finset (Fin 2)) fun c => bigSep (Finset.univ : Finset (Fin 16)) fun i => rowsOut d (coordsV c i) f)
      ⊢ (bigSep (Finset.univ : Finset (Fin 2)) fun c => bigSep (Finset.univ : Finset (Fin 16)) fun i => outTodo d (coordsV c i) 0 : sProp 𝕄) :=
    bigSep_mono fun c _ => bigSep_mono fun i _ => rows_todo d (coordsV c i) f
  iintro ⟨Hw, Hx, Ho⟩
  isplitl [Hw]; · iexact Hw
  isplitl [Hx]; · iexact Hx
  iapply h $$ Ho

theorem dn_join :
    (bigSep (Finset.univ : Finset (Fin 2)) fun c => dnPay d X tb c : sProp 𝕄) = iprop(wAt d fullShare tb ∗ xAt d fullShare X ∗ oAt d (outAll tb X)) := by
  unfold dnPay
  rw [bigSep_sep', bigSep_sep', x_cores, w_cores, out_pieces]

end Launch

variable (m : (ℓ : Loc nD τ sig) → Buf (Elt F) ℓ) (ρ : Dev nD → PrngReg)

/-- The flat input, the table and the result, from the launch memory. -/
def Xof (d : Dev nD) : S22118400.Idx → F .f32 := shapeCast S22118400 (m (a0Loc d)) shapeCasts_S4096x200x27_S22118400
def tbof (d : Dev nD) : S320.Idx → F .f32 := shapeCast S320 (m (a1Loc d)) shapeCasts_S32x10_S320
def Rof (d : Dev nD) : S4096x200x32.Idx → F .f32 := shapeCast S4096x200x32 (outAll (tbof m d) (Xof m d)) shapeCasts_S26214400_S4096x200x32

def P : (K (F := F)).Pay (nD := nD) (Val := Elt F) (Name := ℕ) (U := UU) where
  st := fun q d => match q with | 0 => fun c : Fin 2 => stPay d (Xof m d) (tbof m d) c
  dn := fun q d => match q with | 0 => fun c : Fin 2 => dnPay d (Xof m d) (tbof m d) c
  go := fun q d => match q with | 0 => fun (c : Fin 2) (i : Fin 16) => goPay d (coordsV c i) (Xof m d) (tbof m d)
  td := fun q d => match q with | 0 => fun (c : Fin 2) (i : Fin 16) => tdPay d (coordsV c i) (Xof m d) (tbof m d)
  x := fun _ _ => iprop(emp)

section Storable

variable (d : Dev nD) (X : S22118400.Idx → F .f32) (tb : S320.Idx → F .f32)

instance todo_storable (L : grid0.Coords) (t : ℕ) : BI.Storable (upEmb : UEmb _ 𝕄) (outTodo d L t) := by
  unfold outTodo; infer_instance
instance rows_storable (L : grid0.Coords) (G : S26214400.Idx → F .f32) : BI.Storable (upEmb : UEmb _ 𝕄) (rowsOut d L G) := by
  unfold rowsOut; infer_instance
instance st_storable (c : Fin 2) : BI.Storable (upEmb : UEmb _ 𝕄) (stPay d X tb c) := by
  have : ∀ i : Fin 16, BI.Storable (upEmb : UEmb _ 𝕄) (outTodo d (coordsV c i) 0) := fun i => todo_storable d (coordsV c i) 0
  unfold stPay; infer_instance
instance dn_storable (c : Fin 2) : BI.Storable (upEmb : UEmb _ 𝕄) (dnPay d X tb c) := by
  have : ∀ i : Fin 16, BI.Storable (upEmb : UEmb _ 𝕄) (rowsOut d (coordsV c i) (outAll tb X)) := fun i => rows_storable d (coordsV c i) _
  unfold dnPay; infer_instance
instance go_storable (L : grid0.Coords) : BI.Storable (upEmb : UEmb _ 𝕄) (goPay d L X tb) := by
  unfold goPay; infer_instance
instance td_storable (L : grid0.Coords) : BI.Storable (upEmb : UEmb _ 𝕄) (tdPay d L X tb) := by
  unfold tdPay; infer_instance

end Storable

instance P_storable : (P (F := F) m).IsStorable where
  st q d c := match q with | 0 => st_storable d (Xof m d) (tbof m d) c
  dn q d c := match q with | 0 => dn_storable d (Xof m d) (tbof m d) c
  go q d c i := match q with | 0 => go_storable d (Xof m d) (tbof m d) (coordsV c i)
  td q d c i := match q with | 0 => td_storable d (Xof m d) (tbof m d) (coordsV c i)

/-! ## The tiles -/

theorem defs₀_vector (c : Fin τ.nSC) (s : Fin τ.nSub) :
    defs₀ (F := F) (.scVector c s) 0 ()
      = SparseCore.onTile hcore0 hsub0 (fun c s => cc0__sc_body (coordsV c s) xW (Memref.isWhole_whole _) wW (Memref.isWhole_whole _) oW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body d (coordsV ⟨_, hc.1⟩ ⟨_, hc.2⟩) (Xof m d) (tbof m d) hF O W hO).trans (wp_mono frame _ _ fun _ => obl_post)

theorem vecSplit : (K (F := F)).VecSplit' (P m) 0 := by
  intro d c
  show stPay d (Xof m d) (tbof m d) c ⊢ |={Set.univ}=> iprop(
      (bigSep (Finset.univ : Finset (Fin 16)) fun i => goPay d (coordsV c i) (Xof m d) (tbof m d))
      ∗ ((bigSep (Finset.univ : Finset (Fin 16)) fun i => tdPay d (coordsV c i) (Xof m d) (tbof m d)) -∗ dnPay d (Xof m d) (tbof m d) c))
  rw [td_join, go_split]
  iintro H
  imodintro
  isplitl [H]; · iexact H
  iintro H
  iexact H

/-! ## @main -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [show (bigSep Finset.univ fun _ : Dev nD => (iprop(emp) : sProp 𝕄)) = iprop(emp) from bigSep_emp_const _]; iempintro
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

end Cert.Proof.Hp

end
-- ==== Proof.Main.lean ====
/-
  @main: two reshapes, the SparseCore call, a reshape; and the whole program's run.
-/
module

public import proofs.«01_k».proof.Proof.Launch

@[expose] public section

noncomputable section

namespace Cert.Proof.Hp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

abbrev rf (b : Ref sig .tc) : DevRef τ sig := Proc.devRef .tc b

omit [FloatOps F] in
theorem held_two (d : Dev nD) (x y : Ref sig .tc) (h : x ≠ y) (V : Valuation τ sig (Elt F)) :
    (held (SparseCore.T d : Thread nD τ) {rf x, rf y} V : sProp 𝕄) = iprop(((SparseCore.T d : Thread nD τ).loc x ↦{fullShare} V (rf x)) ∗ (SparseCore.T d : Thread nD τ).loc y ↦{fullShare} V (rf y)) := by
  unfold held
  rw [SparseCore.bigSep_insert' (by rw [Finset.mem_singleton]; exact fun e => h (Proc.devRef_injective _ e)), bigSep_singleton]

/-- A reshape of one array into another. -/
theorem reshape_step (m : (ℓ : Loc nD τ sig) → Buf (Elt F) ℓ) {Λ : Labels} (dfs : Defs nD τ sig (Elt F) Λ) (𝒱' : Variants) {α : Type} {Q : α → sProp 𝕄} (d : Dev nD) (x y : Ref sig .tc) (hne : x ≠ y) (he : x.ty.elt = y.ty.elt) (hn : x.ty.shape.ShapeCasts y.ty.shape)
    (hx : x.space ≠ .host ∧ (rf x).isScoped = false) (hy : y.space ≠ .host ∧ (rf y).isScoped = false)
    (f : Buf (Elt F) ((SparseCore.T d : Thread nD τ).loc x)) (g : Buf (Elt F) ((SparseCore.T d : Thread nD τ).loc y)) {hp}
    {k : PUnit → Prog (TpuEff nD τ sig (Elt F) Λ (SparseCore.T d : Thread nD τ).2) α} :
    iprop(boundary (SparseCore.T d : Thread nD τ) ∗ ((SparseCore.T d : Thread nD τ).loc x ↦{fullShare} f) ∗ (SparseCore.T d : Thread nD τ).loc y ↦{fullShare} g)
      ⊢ iprop((iprop(boundary (SparseCore.T d : Thread nD τ) ∗ ((SparseCore.T d : Thread nD τ).loc x ↦{fullShare} f) ∗ (SparseCore.T d : Thread nD τ).loc y ↦{fullShare} (fun i => he ▸ shapeCast y.ty.shape f hn i))
          -∗ wp frame (wpE dfs 𝒱' (SparseCore.T d : Thread nD τ) none) Set.univ (k ⟨⟩) Q)
        -∗ wp frame (wpE dfs 𝒱' (SparseCore.T d : Thread nD τ) none) Set.univ (hlo hp (StableHlo.reshape x y he hn hx hy) (fun _ => .ret ⟨⟩) >>= k) Q) := by
  let V : Valuation τ sig (Elt F) := Function.update (Function.update (fun b => m (d, b)) (rf x) f) (rf y) g
  have hVx : V (rf x) = f := by
    have : rf x ≠ rf y := fun e => hne (Proc.devRef_injective _ e)
    exact (Function.update_of_ne this _ _).trans (Function.update_self _ _ _)
  have hVy : V (rf y) = g := Function.update_self _ _ _
  have e0 := held_two (F := F) d x y hne V
  have e1 := held_two (F := F) d x y hne ((StableHlo.reshape x y he hn hx hy : HloOp τ sig (Elt F)).result V)
  rw [StableHlo.reshape_result, StableHlo.reshape_result_ne (h := hne), hVx] at e1
  rw [hVx, hVy] at e0
  iintro ⟨Hb, Hx, Hy⟩ Hk
  iapply (wp_hlo_within 𝒱' (SparseCore.T d : Thread nD τ) none Set.univ (op := StableHlo.reshape x y he hn hx hy) (S := {rf x, rf y}) (Finset.Subset.refl _) (V := V)) $$ [Hb Hx Hy]
  · isplitl [Hb]; · iexact Hb
    rw [e0]
    isplitl [Hx]; · iexact Hx
    iexact Hy
  rw [e1]
  iintro ⟨Hb, Hx, Hy⟩
  iapply Hk
  isplitl [Hb]; · iexact Hb
  isplitl [Hx]; · iexact Hx
  iexact Hy

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xLoc d ↦{fullShare} W main_v0)
      ∗ (wLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- What @main leaves the claims: the arguments at their launch contents, the result at the kernel's value. -/
abbrev FIN (d : Dev nD) : sProp 𝕄 :=
  iprop((a0Loc d ↦{fullShare} m (a0Loc d)) ∗ (a1Loc d ↦{fullShare} m (a1Loc d)) ∗ rLoc d ↦{fullShare} Rof m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  unfold main
  iintro ⟨#Hctx, Hst, ⟨Hb, ⟨Ha0, Ha1, Hx, Hw, Ho, Hr⟩, Hts, -⟩, -⟩
  iapply (reshape_step m _ 𝒱 d main_arg0 main_v0 (by decide) _ _ _ _ (m (a0Loc d)) (m (xLoc d))) $$ [Hb Ha0 Hx]
  · isplitl [Hb]; · iexact Hb
    isplitl [Ha0]; · iexact Ha0
    iexact Hx
  iintro ⟨Hb, Ha0, Hx⟩
  iapply (reshape_step m _ 𝒱 d main_arg1 main_v1 (by decide) _ _ _ _ (m (a1Loc d)) (m (wLoc d))) $$ [Hb Ha1 Hw]
  · isplitl [Hb]; · iexact Hb
    isplitl [Ha1]; · iexact Ha1
    iexact Hw
  iintro ⟨Hb, Ha1, Hw⟩
  rw [wp_bind]
  iapply ((K (F := F)).wp_run (D (F := F)) 𝒱 (EH := EH) (P := P m) κ d 0) $$ [Hst Hx Hw Ho Ha0 Ha1 Hr Hb Hts]
  isplitr; · iexact Hctx
  isplitl [Hst]; · iexact Hst
  isplitl [Hx Hw Ho]
  · rw [show (bigSep Finset.univ fun c : Fin ((K (F := F)).nCore 0) => (P m).st 0 d c)
      = (bigSep (Finset.univ : Finset (Fin 2)) fun c => stPay d (Xof m d) (tbof m d) c : sProp 𝕄) from rfl]
    iapply (st_split d (Xof m d) (tbof m d) (m (oLoc d)))
    isplitl [Hw]; · iexact Hw
    isplitl [Hx]; · iexact Hx
    iexact Ho
  iintro ⟨Hst, Hdn⟩
  ihave Hdn' := (Entails.of_eq ((show (bigSep Finset.univ fun c : Fin ((K (F := F)).nCore 0) => (P m).dn 0 d c)
      = (bigSep (Finset.univ : Finset (Fin 2)) fun c => dnPay d (Xof m d) (tbof m d) c : sProp 𝕄) from rfl).trans (dn_join d (Xof m d) (tbof m d)))) $$ Hdn
  icases Hdn' with ⟨Hw, Hx, Ho⟩
  iapply (reshape_step m _ 𝒱 d main_v2 main_v3 (by decide) _ _ _ _ (outAll (tbof m d) (Xof m d)) (m (rLoc d))) $$ [Hb Ho Hr]
  · isplitl [Hb]; · iexact Hb
    isplitl [Ho]; · iexact Ho
    iexact Hr
  iintro ⟨Hb, Ho, Hr⟩
  rw [Prog.pure_eq_ret, wp_ret]
  imodintro
  isplitl [Hst]; · iexact Hst
  isplitr [Hb Hts]
  · isplitl [Ha0]; · iexact Ha0
    isplitl [Ha1]; · iexact Ha1
    iexact Hr
  isplitl [Hb] <;> iassumption

def fq (d : Dev nD) (s' : Phys nD τ sig (Elt F)) : Prop :=
  s'.mem.mem (a0Loc d) = m (a0Loc d) ∧ s'.mem.mem (a1Loc d) = m (a1Loc d) ∧ s'.mem.mem (rLoc d) = Rof m d

theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := Rof m d)) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-- The whole program's run: the arguments kept, the result at the kernel's value, every semaphore back at zero. -/
def QC : PUnit × MemSt nD τ sig (Elt F) → Prop := fun r =>
  (∀ c : Dev nD, r.2.mem (a0Loc c) = m (a0Loc c) ∧ r.2.mem (a1Loc c) = m (a1Loc c) ∧ r.2.mem (rLoc c) = Rof m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hp

end
-- ==== Proof.Frames.lean ====
/- The frames: each program runs to the end from every memory, leaving its arguments and every counter as they were. -/
module

public import proofs.«01_k».proof.Defs
public import proofs.«01_k».proof.Proof.Gen.Kernel
public import proofs.«01_k».proof.Proof.Gen.Pre_hpmax_in_range
public import proofs.«01_k».proof.Proof.Gen.ReferenceIdeal.Run
public import proofs.«01_k».proof.Proof.Main
public import Idealize.ShloMosaic.Lib.QuiescentFlight

@[expose] public section

noncomputable section

namespace Cert.Proof.Hp

open Idealize.ShloMosaic Idealize.SL.Sem

/-- The kernel as printed: the same text as the one read at the ideal instance, so the same run. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_kernelIdeal_pre : Cert.quiescent_KernelIdeal_pre_hpmax_in_range := fun m ρ _ =>
  frame_kernelIdeal m ρ trivial

/-- The reference is a straight-line host program that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_hpmax_in_range := fun m ρ _ =>
  frame_reference m ρ trivial

end Cert.Proof.Hp

end
-- ==== Proof.Num.lean ====
/-
  The two readings of a row's bin agree: the reference asks whether a limit `c` is below the quotient `n / d`
  (its infinities replaced by the largest finite floats), the kernel whether `d · c` is below `n`.
-/
module

public import Idealize.ShloMosaic.PureOps.Ideal

@[expose] public section

noncomputable section

namespace Cert.Proof.Hp

open Idealize.ShloMosaic

/-- The largest finite `f32`. -/
def big : ℝ := 16777215 * 2 ^ 104

theorem one_lt_big : (1 : ℝ) < big := by unfold big; norm_num

theorem bits_top : Ideal.ofBits .f32 0x7F800000#32 = (⊤ : EReal) := by
  simp [Ideal.ofBits, Ideal.ieee]

theorem bits_bot : Ideal.ofBits .f32 0xFF800000#32 = (⊥ : EReal) := by
  simp [Ideal.ofBits, Ideal.ieee]

theorem bits_big : Ideal.ofBits .f32 0x7F7FFFFF#32 = (big : EReal) := by
  simp [Ideal.ofBits, Ideal.ieee, big]

theorem bits_nbig : Ideal.ofBits .f32 0xFF7FFFFF#32 = ((-big : ℝ) : EReal) := by
  simp [Ideal.ofBits, Ideal.ieee, big]

theorem bits_zero : Ideal.ofBits .f32 0x00000000#32 = ((0 / 8 : ℝ) : EReal) := by
  simp [Ideal.ofBits, Ideal.ieee]

theorem bits_1 : Ideal.ofBits .f32 0x3E000000#32 = ((1 / 8 : ℝ) : EReal) := by
  simp only [Ideal.ofBits, Ideal.ieee]
  rw [if_neg (by decide), if_neg (by decide)]
  congr 1
  simp <;> norm_num

theorem bits_2 : Ideal.ofBits .f32 0x3E800000#32 = ((2 / 8 : ℝ) : EReal) := by
  simp only [Ideal.ofBits, Ideal.ieee]
  rw [if_neg (by decide), if_neg (by decide)]
  congr 1
  simp <;> norm_num

theorem bits_3 : Ideal.ofBits .f32 0x3EC00000#32 = ((3 / 8 : ℝ) : EReal) := by
  simp only [Ideal.ofBits, Ideal.ieee]
  rw [if_neg (by decide), if_neg (by decide)]
  congr 1
  simp <;> norm_num

theorem bits_4 : Ideal.ofBits .f32 0x3F000000#32 = ((4 / 8 : ℝ) : EReal) := by
  simp only [Ideal.ofBits, Ideal.ieee]
  rw [if_neg (by decide), if_neg (by decide)]
  congr 1
  simp <;> norm_num

theorem bits_5 : Ideal.ofBits .f32 0x3F200000#32 = ((5 / 8 : ℝ) : EReal) := by
  simp only [Ideal.ofBits, Ideal.ieee]
  rw [if_neg (by decide), if_neg (by decide)]
  congr 1
  simp <;> norm_num

theorem bits_6 : Ideal.ofBits .f32 0x3F400000#32 = ((6 / 8 : ℝ) : EReal) := by
  simp only [Ideal.ofBits, Ideal.ieee]
  rw [if_neg (by decide), if_neg (by decide)]
  congr 1
  simp <;> norm_num

theorem bits_7 : Ideal.ofBits .f32 0x3F600000#32 = ((7 / 8 : ℝ) : EReal) := by
  simp only [Ideal.ofBits, Ideal.ieee]
  rw [if_neg (by decide), if_neg (by decide)]
  congr 1
  simp <;> norm_num

theorem bits_8 : Ideal.ofBits .f32 0x3F800000#32 = ((8 / 8 : ℝ) : EReal) := by
  simp only [Ideal.ofBits, Ideal.ieee]
  rw [if_neg (by decide), if_neg (by decide)]
  congr 1
  simp <;> norm_num

theorem bits_eight : Ideal.ofBits .f32 0x41000000#32 = ((8 : ℝ) : EReal) := by
  simp only [Ideal.ofBits, Ideal.ieee]
  rw [if_neg (by decide), if_neg (by decide)]
  congr 1
  simp <;> norm_num

/-- A quotient with its infinities replaced by the largest finite floats. -/
def finq (q : EReal) : EReal :=
  if (if q = ⊤ then (big : EReal) else q) = ⊥ then ((-big : ℝ) : EReal) else if q = ⊤ then (big : EReal) else q

theorem finq_top : finq ⊤ = (big : EReal) := by simp [finq]

theorem finq_bot : finq ⊥ = ((-big : ℝ) : EReal) := by simp [finq]

theorem finq_coe (q : ℝ) : finq (q : EReal) = q := by simp [finq]

theorem lt_finq (n d : EReal) (h0 : 0 ≤ d) (h1 : d < ⊤) (c : ℝ) (c0 : 0 ≤ c) (c1 : c ≤ 1) :
    (c : EReal) < finq (Ideal.div n d) ↔ d * (c : EReal) < n := by
  have hb := one_lt_big
  have e1 : (c : EReal) < (big : EReal) := EReal.coe_lt_coe_iff.2 (by linarith)
  have e2 : ¬ (c : EReal) < ((-big : ℝ) : EReal) := by
    rw [EReal.coe_lt_coe_iff]; linarith
  lift d to ℝ using ⟨h1.ne, fun h => by simp [h] at h0⟩
  have h0' : (0 : ℝ) ≤ d := EReal.coe_nonneg.1 h0
  rcases h0'.eq_or_lt with rfl | hd
  · rw [EReal.coe_zero, zero_mul]
    by_cases hn : 0 < n
    · simp [Ideal.div, hn, finq_top, e1]
    · simp only [Ideal.div, hn, if_true, if_false, finq_bot, e2]
  · rw [Ideal.div_coe hd.ne']
    induction n with
    | bot =>
      rw [EReal.bot_mul_coe_of_pos (by positivity), finq_bot]
      simp only [e2, not_lt_bot]
    | top =>
      rw [EReal.top_mul_coe_of_pos (by positivity), finq_top, ← EReal.coe_mul]
      simp only [e1, EReal.coe_lt_top]
    | coe n =>
      rw [← EReal.coe_mul, ← EReal.coe_mul, finq_coe, EReal.coe_lt_coe_iff, EReal.coe_lt_coe_iff, mul_one_div,
        lt_div_iff₀ hd, mul_comm]

end Cert.Proof.Hp

end
-- ==== Proof.Value.lean ====
/-
  The two results are one array: at `(b, t, e)` both hold the embedding table's entry `(e, bin)`, where `bin` counts
  the limits `k/8` below the row's ratio — for the kernel by comparing `den · (k/8)` with `num` (`binOf`), for the
  reference by comparing `k/8` with the quotient, then by a product with the one-hot vector of that count.
-/
module

public import proofs.«01_k».proof.Proof.Frames
public import proofs.«01_k».proof.Proof.Num
public import Idealize.ShloMosaic.Lib.Pointwise

@[expose] public section

noncomputable section

namespace Cert.Proof.Hp

open Idealize.ShloMosaic Idealize.SL.Sem

/-! ## The flat arrays read at a row -/

theorem flat_in (x : FVec Ideal KernelIdeal.S4096x200x27 .f32) (b : Fin 4096) (t : Fin 200) (q : Fin 27) :
    shapeCast KernelIdeal.S22118400 x KernelIdeal.Gen.shapeCasts_S4096x200x27_S22118400 (at1 (27 * (200 * b.val + t.val) + q.val))
      = x (ix3 b t q) := by
  unfold at1
  pointwise
  have hb := b.isLt
  have ht := t.isLt
  have hq := q.isLt
  congr 2 <;> (apply Fin.ext; simp only [Fin.val_ofNat]; omega)

theorem flat_table (w : FVec Ideal KernelIdeal.S32x10 .f32) (e : Fin 32) (k : Fin 10) :
    shapeCast KernelIdeal.S320 w KernelIdeal.Gen.shapeCasts_S32x10_S320 (at1 (k.val + 10 * e.val)) = w (ix2 e k) := by
  unfold at1
  pointwise
  have he := e.isLt
  have hk := k.isLt
  congr 2 <;> (apply Fin.ext; simp only [Fin.val_ofNat]; omega)

theorem flat_out (f : FVec Ideal KernelIdeal.S26214400 .f32) (j : KernelIdeal.S4096x200x32.Idx) :
    shapeCast KernelIdeal.S4096x200x32 f KernelIdeal.Gen.shapeCasts_S26214400_S4096x200x32 j
      = f (at1 (32 * (200 * (j 0).val + (j 1).val) + (j 2).val)) := by
  pointwise
  refine congrArg f (eq_at1 _ _ ?_)
  show (j 0).val * 6400 + (j 1).val * 32 + (j 2).val = _
  omega

/-- The bin of a row, as a column of the table. -/
def col (num den : EReal) : Fin 10 := ⟨(binOf (F := Ideal) num den).toNat, by have := binOf_le (F := Ideal) num den; omega⟩

theorem outAll_at (tb : FVec Ideal KernelIdeal.S320 .f32) (X : FVec Ideal KernelIdeal.S22118400 .f32) (r e : ℕ) (hr : r < 819200)
    (he : e < 32) (p q : EReal) (hp : X (at1 (27 * r + 10)) = p) (hq : X (at1 (27 * r + 11)) = q) :
    outAll (F := Ideal) tb X (at1 (32 * r + e)) = tb (at1 ((col p q).val + 10 * e)) := by
  unfold outAll
  rw [at1_val _ (by omega)]
  have e1 : (32 * r + e) / 32 = r := by omega
  have e2 : (32 * r + e) % 32 = e := by omega
  rw [e1, e2, hp, hq]
  rfl

/-- The kernel's result at an index. -/
theorem kernel_at (m : (ℓ : Loc KernelIdeal.nD KernelIdeal.τ KernelIdeal.sig) → Buf (Elt Ideal) ℓ) (d : Dev KernelIdeal.nD)
    (x : FVec Ideal KernelIdeal.S4096x200x27 .f32) (w : FVec Ideal KernelIdeal.S32x10 .f32)
    (hx : m (a0Loc d) = x) (hw : m (a1Loc d) = w) (j : KernelIdeal.S4096x200x32.Idx) :
    Rof m d j = w (ix2 (j 2) (col (x (ix3 (j 0) (j 1) 10)) (x (ix3 (j 0) (j 1) 11)))) := by
  have h2 : (j 2).val < 32 := (j 2).isLt
  have h1 : (j 1).val < 200 := (j 1).isLt
  have h0 : (j 0).val < 4096 := (j 0).isLt
  have hX : Xof m d = shapeCast KernelIdeal.S22118400 x KernelIdeal.Gen.shapeCasts_S4096x200x27_S22118400 := by
    unfold Xof; rw [hx]
  have hT : tbof m d = shapeCast KernelIdeal.S320 w KernelIdeal.Gen.shapeCasts_S32x10_S320 := by
    unfold tbof; rw [hw]
  unfold Rof
  rw [hX, hT]
  refine (flat_out _ j).trans ?_
  refine (outAll_at _ _ _ _ (by omega) h2 _ _ (flat_in x (j 0) (j 1) 10) (flat_in x (j 0) (j 1) 11)).trans ?_
  exact flat_table w (j 2) _

/-! ## The reference's stages at an index -/

open Cert.ReferenceIdeal Cert.ReferenceIdeal.Gen

/-- The limits: nine evenly spaced numbers from zero to one. -/
def lims : FVec Ideal S9 .f32 :=
  concatenate S9 0 [⟨S8, (addf (mulf (broadcastInDim S8 ![0] bcast_S1_S8_0 (shapeCast _ (id (constant S_ .f32 0x00000000#32)) shapeCasts_S_S1)) (subf (broadcastInDim S8 ![] bcast_S_S8 (constant S_ .f32 0x3F800000#32)) (Host.divf (sitofp .f32 (iotaInDim S8 32 0)) (broadcastInDim S8 ![] bcast_S_S8 (constant S_ .f32 0x41000000#32))))) (mulf (broadcastInDim S8 ![0] bcast_S1_S8_0 (shapeCast _ (id (constant S_ .f32 0x3F800000#32)) shapeCasts_S_S1)) (Host.divf (sitofp .f32 (iotaInDim S8 32 0)) (broadcastInDim S8 ![] bcast_S_S8 (constant S_ .f32 0x41000000#32)))))⟩, ⟨S1, (broadcastInDim S1 ![] bcast_S_S1 (id (constant S_ .f32 0x3F800000#32)))⟩] concatenates_S8_S1_S9_d0

/-- `n/8` as the interpolation `0 · (1 - n/8) + 1 · (n/8)` computes it. -/
theorem lerp (n : ℕ) (h : n < 8) :
    Ideal.ofBits .f32 0x00000000#32 * (1 - Ideal.div (FloatOps.sitofp (F := Ideal) .f32 (BitVec.ofNat 32 n)) (Ideal.ofBits .f32 0x41000000#32))
      + Ideal.ofBits .f32 0x3F800000#32 * Ideal.div (FloatOps.sitofp (F := Ideal) .f32 (BitVec.ofNat 32 n)) (Ideal.ofBits .f32 0x41000000#32)
      = ((n / 8 : ℝ) : EReal) := by
  have hs : FloatOps.sitofp (F := Ideal) .f32 (BitVec.ofNat 32 n) = ((n : ℝ) : EReal) := by
    show (((BitVec.ofNat 32 n).toInt : ℝ) : EReal) = _
    have : (BitVec.ofNat 32 n).toInt = (n : ℤ) := by interval_cases n <;> rfl
    rw [this]; norm_num
  rw [hs, bits_eight, Ideal.div_coe (by norm_num), bits_zero, bits_8, zero_div, EReal.coe_zero, zero_mul, zero_add,
    div_self (by norm_num), EReal.coe_one, one_mul, ← EReal.coe_mul, mul_one_div]

theorem lims_at (k : Fin 9) : lims (ix1 k) = ((k.val / 8 : ℝ) : EReal) := by
  have hk := k.isLt
  unfold lims
  pointwise
  split
  · next h => exact lerp _ h
  · next h =>
    have : k.val = 8 := by
      have h' : ¬ k.val < 8 := h
      omega
    rw [this]
    exact bits_8

/-- The quotient, its infinities replaced. -/
def ratio (x : FVec Ideal S4096x200x27 .f32) : FVec Ideal S4096x200 .f32 :=
  let q : FVec Ideal S4096x200 .f32 := Host.divf (shapeCast _ (extractStridedSlice S4096x200x1 ![0, 0, 10] x slices_S4096x200x27_S4096x200x1_0_0_10) shapeCasts_S4096x200x1_S4096x200) (shapeCast _ (extractStridedSlice S4096x200x1 ![0, 0, 11] x slices_S4096x200x27_S4096x200x1_0_0_11) shapeCasts_S4096x200x1_S4096x200)
  let a : FVec Ideal S4096x200 .f32 := select (cmpf .une q q) (broadcastInDim S4096x200 ![] bcast_S_S4096x200 (constant S_ .f32 0x00000000#32)) q
  let b : FVec Ideal S4096x200 .f32 := select (cmpf .oeq a (broadcastInDim S4096x200 ![] bcast_S_S4096x200 (constant S_ .f32 0x7F800000#32))) (broadcastInDim S4096x200 ![] bcast_S_S4096x200 (constant S_ .f32 0x7F7FFFFF#32)) a
  select (cmpf .oeq b (broadcastInDim S4096x200 ![] bcast_S_S4096x200 (constant S_ .f32 0xFF800000#32))) (broadcastInDim S4096x200 ![] bcast_S_S4096x200 (constant S_ .f32 0xFF7FFFFF#32)) b

theorem ratio_at (x : FVec Ideal S4096x200x27 .f32) (i : S4096x200.Idx) :
    ratio x i = finq (Ideal.div (x (ix3 (i 0) (i 1) 10)) (x (ix3 (i 0) (i 1) 11))) := by
  unfold ratio
  pointwise
  simp only [ne_eq, not_true_eq_false, if_false, bits_top, bits_bot, bits_big, bits_nbig]
  rfl

/-- How many limits lie below each row's ratio. -/
def count (L : FVec Ideal S9 .f32) (H : FVec Ideal S4096x200 .f32) : IVec S4096x200 32 :=
  Host.reduce IntOp.addi (extui 32 (cmpf .olt
        (broadcastInDim S4096x200x9 ![0, 1, 2] bcast_S1x1x9_S4096x200x9_0_1_2 (broadcastInDim S1x1x9 ![2] bcast_S9_S1x1x9_2 L))
        (broadcastInDim S4096x200x9 ![0, 1, 2] bcast_S4096x200x1_S4096x200x9_0_1_2
          (broadcastInDim S4096x200x1 ![0, 1] bcast_S4096x200_S4096x200x1_0_1 H))) natLt_1_32)
      (constantI S_ 32 0#32) reducesTo_S4096x200x9_S4096x200_d2 h_S_

theorem bit_eq (n d : EReal) (h0 : 0 ≤ d) (h1 : d < ⊤) (c : ℝ) (c0 : 0 ≤ c) (c1 : c ≤ 1) (w : BitVec 32)
    (hw : Ideal.ofBits .f32 w = (c : EReal)) :
    BitVec.setWidth 32 (BitVec.ofBool (decide ((c : EReal) < finq (Ideal.div n d))))
      = (FloatOps.cmpf (F := Ideal) (φ := .f32) .olt (FloatOps.mulf d (Scalar.ofBits .f32 w)) n).setWidth 32 := by
  refine congrArg (BitVec.setWidth 32) ?_
  have e : FloatOps.cmpf (F := Ideal) (φ := .f32) .olt (FloatOps.mulf d (Scalar.ofBits .f32 w)) n
      = BitVec.ofBool (decide (d * Ideal.ofBits .f32 w < n)) := rfl
  rw [e, hw]
  exact congrArg BitVec.ofBool (decide_eq_decide.2 (lt_finq n d h0 h1 c c0 c1))

theorem count_at (x : FVec Ideal S4096x200x27 .f32) (i : S4096x200.Idx)
    (h0 : 0 ≤ x (ix3 (i 0) (i 1) 11)) (h1 : x (ix3 (i 0) (i 1) 11) < ⊤) :
    count lims (ratio x) i = binOf (F := Ideal) (x (ix3 (i 0) (i 1) 10)) (x (ix3 (i 0) (i 1) 11)) := by
  unfold count
  pointwise
  simp only [ratio_at, lims_at]
  generalize x (ix3 (i 0) (i 1) 10) = n at *
  generalize x (ix3 (i 0) (i 1) 11) = d at *
  have hu : (Finset.univ : Finset (Fin 9)) = {0, 1, 2, 3, 4, 5, 6, 7, 8} := by decide
  rw [hu]
  repeat rw [Finset.fold_insert (by decide)]
  rw [Finset.fold_singleton]
  have B (c : ℝ) (c0 : 0 ≤ c) (c1 : c ≤ 1) (w : BitVec 32) (hw : Ideal.ofBits .f32 w = (c : EReal)) :=
    bit_eq n d h0 h1 c c0 c1 w hw
  have b0 := B (((0 : Fin 9).val : ℝ) / 8) (by norm_num) (by norm_num) _ (by rw [bits_zero]; norm_num)
  have b1 := B (((1 : Fin 9).val : ℝ) / 8) (by norm_num) (by norm_num) _ (by rw [show (((1 : Fin 9).val : ℝ) / 8) = 1 / 8 by norm_num]; exact bits_1)
  have b2 := B (((2 : Fin 9).val : ℝ) / 8) (by norm_num) (by norm_num) _ (by rw [show (((2 : Fin 9).val : ℝ) / 8) = 2 / 8 by norm_num]; exact bits_2)
  have b3 := B (((3 : Fin 9).val : ℝ) / 8) (by norm_num) (by norm_num) _ (by rw [show (((3 : Fin 9).val : ℝ) / 8) = 3 / 8 by norm_num]; exact bits_3)
  have b4 := B (((4 : Fin 9).val : ℝ) / 8) (by norm_num) (by norm_num) _ (by rw [show (((4 : Fin 9).val : ℝ) / 8) = 4 / 8 by norm_num]; exact bits_4)
  have b5 := B (((5 : Fin 9).val : ℝ) / 8) (by norm_num) (by norm_num) _ (by rw [show (((5 : Fin 9).val : ℝ) / 8) = 5 / 8 by norm_num]; exact bits_5)
  have b6 := B (((6 : Fin 9).val : ℝ) / 8) (by norm_num) (by norm_num) _ (by rw [show (((6 : Fin 9).val : ℝ) / 8) = 6 / 8 by norm_num]; exact bits_6)
  have b7 := B (((7 : Fin 9).val : ℝ) / 8) (by norm_num) (by norm_num) _ (by rw [show (((7 : Fin 9).val : ℝ) / 8) = 7 / 8 by norm_num]; exact bits_7)
  have b8 := B (((8 : Fin 9).val : ℝ) / 8) (by norm_num) (by norm_num) _ (by rw [show (((8 : Fin 9).val : ℝ) / 8) = 8 / 8 by norm_num]; exact bits_8)
  rw [b0, b1, b2, b3, b4, b5, b6, b7, b8]
  unfold binOf
  simp only [IntOp.addi]
  ac_rfl

/-- The product with a one-hot vector picks a column of the table. -/
theorem pick_at (I : IVec S4096x200 32) (w : FVec Ideal S32x10 .f32) (j : S4096x200x32.Idx) (k : Fin 10)
    (hk : (I (ix2 (j 0) (j 1))).toNat = k.val) :
    Host.dotGeneral (F := Ideal) (φ₁ := .f32) (φ₂ := .f32) dot_S4096x200x10_S10x32_S4096x200x32_2_0_01_1_n_n none
      (uitofp .f32 (cmpi .eq (broadcastInDim S4096x200x10 ![0, 1, 2] bcast_S4096x200x1_S4096x200x10_0_1_2
          (broadcastInDim S4096x200x1 ![0, 1] bcast_S4096x200_S4096x200x1_0_1 I))
        (broadcastInDim S4096x200x10 ![0, 1, 2] bcast_S1x1x10_S4096x200x10_0_1_2 (iotaInDim S1x1x10 32 2))))
      (transpose S10x32 [1, 0] w transposes_S32x10_S10x32_1_0) j = w (ix2 (j 2) k) := by
  pointwise
  have hI : I (ix2 (j 0) (j 1)) = BitVec.ofNat 32 k.val := by
    rw [← hk, BitVec.ofNat_toNat, BitVec.setWidth_eq]
  rw [hI]
  have term (y : Fin 10) : FloatOps.uitofp (F := Ideal) .f32 (IntOp.cmpi .eq (BitVec.ofNat 32 k.val) (BitVec.ofNat 32 y.val))
      = if y = k then (1 : EReal) else 0 := by
    have e : IntOp.cmpi .eq (BitVec.ofNat 32 k.val) (BitVec.ofNat 32 y.val) = BitVec.ofBool (decide (y = k)) := by
      exact (by decide : ∀ k y : Fin 10, IntOp.cmpi .eq (BitVec.ofNat 32 k.val) (BitVec.ofNat 32 y.val) = BitVec.ofBool (decide (y = k))) k y
    rw [e]
    show (((BitVec.ofBool (decide (y = k))).toNat : ℝ) : EReal) = _
    by_cases h : y = k <;> simp [h]
  simp only [term, ite_mul, one_mul, zero_mul, Finset.sum_ite_eq', Finset.mem_univ, if_true]

/-- The reference's result at an index. -/
theorem reference_at (m : (ℓ : Loc nD τ sig) → Buf (Elt Ideal) ℓ) (d : Dev nD)
    (x : FVec Ideal S4096x200x27 .f32) (w : FVec Ideal S32x10 .f32)
    (hx : m ((d.tc : Thread nD τ).loc main_arg0) = x) (hw : m ((d.tc : Thread nD τ).loc main_arg1) = w)
    (h0 : ∀ b t, 0 ≤ x (ix3 b t 11)) (h1 : ∀ b t, x (ix3 b t 11) < ⊤) (j : S4096x200x32.Idx) :
    Value.res_out0 (F := Ideal) m d j = w (ix2 (j 2) (col (x (ix3 (j 0) (j 1) 10)) (x (ix3 (j 0) (j 1) 11)))) := by
  subst hx hw
  have e : Value.res_out0 (F := Ideal) m d
      = Host.dotGeneral (F := Ideal) (φ₁ := .f32) (φ₂ := .f32) dot_S4096x200x10_S10x32_S4096x200x32_2_0_01_1_n_n none
      (uitofp .f32 (cmpi .eq (broadcastInDim S4096x200x10 ![0, 1, 2] bcast_S4096x200x1_S4096x200x10_0_1_2
          (broadcastInDim S4096x200x1 ![0, 1] bcast_S4096x200_S4096x200x1_0_1
            (count lims (ratio (m ((d.tc : Thread nD τ).loc main_arg0))))))
        (broadcastInDim S4096x200x10 ![0, 1, 2] bcast_S1x1x10_S4096x200x10_0_1_2 (iotaInDim S1x1x10 32 2))))
      (transpose S10x32 [1, 0] (m ((d.tc : Thread nD τ).loc main_arg1)) transposes_S32x10_S10x32_1_0) := rfl
  rw [e]
  refine pick_at _ _ j _ ?_
  rw [count_at _ _ (h0 _ _) (h1 _ _)]
  rfl

/-! ## The precondition, read at a row -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by
  cases p <;> decide

theorem pre_at (x : FVec Ideal Pre_hpmax_in_range.S4096x200x27 .f32) (w : FVec Ideal Pre_hpmax_in_range.S32x10 .f32)
    (h : Pre_hpmax_in_range.fn (F := Ideal) x w = fun _ => 1#1) (b : Fin 4096) (t : Fin 200) :
    0 ≤ x (ix3 b t 11) ∧ x (ix3 b t 11) < ⊤ := by
  have e := congrFun h (ix2 b t)
  unfold Pre_hpmax_in_range.fn at e
  pointwise at e
  rw [andi_ofBool, ofBool_eq_one, Bool.and_eq_true, decide_eq_true_eq, decide_eq_true_eq, bits_top] at e
  exact e

/-! ## The value claim -/

theorem algebraic : Cert.algebraic_KernelIdeal_ReferenceIdeal_pre_hpmax_in_range := by
  intro m ρ m' ρ' hpre hag
  refine ⟨fun c => Rof m c, ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun _ h c => ⟨(h c).1.trans ?_, (h c).2⟩)
      (Cert.ReferenceIdeal.Value.run (F := Ideal) m' ρ')
    have hp := pre_at _ _ (hpre c)
    funext j
    exact (reference_at m' c _ _ (hag c).1 (hag c).2 (fun b t => (hp b t).1) (fun b t => (hp b t).2) j).trans
      (kernel_at m c _ _ rfl rfl j).symm

end Cert.Proof.Hp

end
-- ==== Proof.lean ====
/- The certificate's claim: the three programs' frames, the idealization (no rewrites) and the value claim. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_hpmax_in_range
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_hpmax_in_range.Gen.facts,
    Hp.frame_kernel, Hp.frame_kernelIdeal, Hp.frame_kernelIdeal_pre, Hp.frame_reference, Hp.frame_reference_pre,
    trivial, Hp.algebraic⟩

end Cert.Proof

end
